-- ==== Defs.lean ====
def Pre_Kernel [hPre_subjects : Cert.Pre_subjects.Facts] (m : (ℓ : Loc Cert.Kernel.nD Cert.Kernel.τ Cert.Kernel.sig) → Buf (Elt Bits) ℓ) : Prop :=
  ∀ c : Dev Cert.Kernel.nD,
    (Cert.Pre_subjects.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_subjects : Cert.Pre_subjects.Facts] (m : (ℓ : Loc Cert.KernelIdeal.nD Cert.KernelIdeal.τ Cert.KernelIdeal.sig) → Buf (Elt Ideal) ℓ) : Prop :=
  ∀ c : Dev Cert.KernelIdeal.nD,
    (Cert.Pre_subjects.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_finite_subjects [hPre_finite_subjects : Cert.Pre_finite_subjects.Facts] (m : (ℓ : Loc Cert.KernelIdeal.nD Cert.KernelIdeal.τ Cert.KernelIdeal.sig) → Buf (Elt Ideal) ℓ) : Prop :=
  ∀ c : Dev Cert.KernelIdeal.nD,
    (Cert.Pre_finite_subjects.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite_subjects.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_subjects [hPre_finite_subjects : Cert.Pre_finite_subjects.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_subjects.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite_subjects.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def quiescent_Kernel [hKernel : Cert.Kernel.Facts] [hPre_subjects : Cert.Pre_subjects.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_subjects : Cert.Pre_subjects.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_subjects [hKernelIdeal : Cert.KernelIdeal.Facts] [hPre_finite_subjects : Cert.Pre_finite_subjects.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_subjects m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_subjects [hReferenceIdeal : Cert.ReferenceIdeal.Facts] [hPre_finite_subjects : Cert.Pre_finite_subjects.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_subjects m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "inv_wm1" .f32 0x3C010204#32 ((127⁻¹ : ℝ) : EReal)

def algebraic_KernelIdeal_ReferenceIdeal_pre_finite_subjects [hKernelIdeal : Cert.KernelIdeal.Facts] [hReferenceIdeal : Cert.ReferenceIdeal.Facts] [hPre_finite_subjects : Cert.Pre_finite_subjects.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_subjects m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_subjects : Cert.Pre_subjects.Facts) (hPre_finite_subjects : Cert.Pre_finite_subjects.Facts),
    quiescent_Kernel (hKernel := hKernel) (hPre_subjects := hPre_subjects)
    ∧ quiescent_KernelIdeal (hKernelIdeal := hKernelIdeal) (hPre_subjects := hPre_subjects)
    ∧ quiescent_KernelIdeal_pre_finite_subjects (hKernelIdeal := hKernelIdeal) (hPre_finite_subjects := hPre_finite_subjects)
    ∧ quiescent_ReferenceIdeal (hReferenceIdeal := hReferenceIdeal)
    ∧ quiescent_ReferenceIdeal_pre_finite_subjects (hReferenceIdeal := hReferenceIdeal) (hPre_finite_subjects := hPre_finite_subjects)
    ∧ preserves_Kernel_KernelIdeal
    ∧ algebraic_KernelIdeal_ReferenceIdeal_pre_finite_subjects (hKernelIdeal := hKernelIdeal) (hReferenceIdeal := hReferenceIdeal) (hPre_finite_subjects := hPre_finite_subjects)
-- ==== Pre_finite_subjects.lean ====
abbrev S1024x4x62x128 : Shape := ⟨4, ![1024, 4, 62, 128]⟩
abbrev S1024 : Shape := ⟨1, ![1024]⟩
abbrev S_ : Shape := ⟨0, ![]⟩

class Facts : Prop where
  bcast_S_S1024 : S_.BroadcastsInDim S1024 (![] : Fin 0 → Fin S1024.rank)
  bcast_S_S1024x4x62x128 : S_.BroadcastsInDim S1024x4x62x128 (![] : Fin 0 → Fin S1024x4x62x128.rank)

variable [Facts]

def fn {F : FTy → Type} [FloatOps F] (main_arg0 : FVec F S1024x4x62x128 .f32) (main_arg1 : IVec S1024 32) : IVec S1024 1 × IVec S1024x4x62x128 1 :=
  let main_c : IVec S_ 32 := constantI S_ 32 0#32
  let main_v0 : IVec S1024 32 := broadcastInDim S1024 ![] bcast_S_S1024 main_c
  let main_v1 : IVec S1024 1 := cmpi .sge main_arg1 main_v0
  let main_c_0 : IVec S_ 32 := constantI S_ 32 16#32
  let main_v2 : IVec S1024 32 := broadcastInDim S1024 ![] bcast_S_S1024 main_c_0
  let main_v3 : IVec S1024 1 := cmpi .slt main_arg1 main_v2
  let main_v4 : IVec S1024 1 := andi main_v1 main_v3
  let main_cst : FVec F S_ .f32 := constant S_ .f32 0x7F800000#32
  let main_v5 : FVec F S1024x4x62x128 .f32 := broadcastInDim S1024x4x62x128 ![] bcast_S_S1024x4x62x128 main_cst
  let main_v6 : IVec S1024x4x62x128 1 := cmpf .olt main_arg0 main_v5
  let main_cst_1 : FVec F S_ .f32 := constant S_ .f32 0xFF800000#32
  let main_v7 : FVec F S1024x4x62x128 .f32 := broadcastInDim S1024x4x62x128 ![] bcast_S_S1024x4x62x128 main_cst_1
  let main_v8 : IVec S1024x4x62x128 1 := cmpf .ogt main_arg0 main_v7
  let main_v9 : IVec S1024x4x62x128 1 := andi main_v6 main_v8
  (main_v4, main_v9)
-- ==== Pre_subjects.lean ====
abbrev S1024x4x62x128 : Shape := ⟨4, ![1024, 4, 62, 128]⟩
abbrev S1024 : Shape := ⟨1, ![1024]⟩
abbrev S_ : Shape := ⟨0, ![]⟩

class Facts : Prop where
  bcast_S_S1024 : S_.BroadcastsInDim S1024 (![] : Fin 0 → Fin S1024.rank)

variable [Facts]

def fn {F : FTy → Type} [FloatOps F] (main_arg0 : FVec F S1024x4x62x128 .f32) (main_arg1 : IVec S1024 32) : IVec S1024 1 :=
  let main_c : IVec S_ 32 := constantI S_ 32 0#32
  let main_v0 : IVec S1024 32 := broadcastInDim S1024 ![] bcast_S_S1024 main_c
  let main_v1 : IVec S1024 1 := cmpi .sge main_arg1 main_v0
  let main_c_0 : IVec S_ 32 := constantI S_ 32 16#32
  let main_v2 : IVec S1024 32 := broadcastInDim S1024 ![] bcast_S_S1024 main_c_0
  let main_v3 : IVec S1024 1 := cmpi .slt main_arg1 main_v2
  let main_v4 : IVec S1024 1 := andi main_v1 main_v3
  main_v4
-- ==== Kernel.lean ====
abbrev S1024x4x62x128 : Shape := ⟨4, ![1024, 4, 62, 128]⟩
abbrev S1024 : Shape := ⟨1, ![1024]⟩
abbrev S1024x62x4x128 : Shape := ⟨4, ![1024, 62, 4, 128]⟩
abbrev S1024x248x128 : Shape := ⟨3, ![1024, 248, 128]⟩
abbrev S16x64 : Shape := ⟨2, ![16, 64]⟩
abbrev S16x248x128 : Shape := ⟨3, ![16, 248, 128]⟩
abbrev S64x248x128 : Shape := ⟨3, ![64, 248, 128]⟩
abbrev S16x31744 : Shape := ⟨2, ![16, 31744]⟩
abbrev S1x64 : Shape := ⟨2, ![1, 64]⟩
abbrev S64x31744 : Shape := ⟨2, ![64, 31744]⟩
abbrev S16 : Shape := ⟨1, ![16]⟩
abbrev S16x1 : Shape := ⟨2, ![16, 1]⟩
abbrev S1 : Shape := ⟨1, ![1]⟩
abbrev S1x248x128 : Shape := ⟨3, ![1, 248, 128]⟩
abbrev S248x128 : Shape := ⟨2, ![248, 128]⟩
abbrev S248 : Shape := ⟨1, ![248]⟩
abbrev S248x1 : Shape := ⟨2, ![248, 1]⟩

abbrev nBuf : Space → Nat
  | .hbm => 9
  | .vmem => 14
  | .smem => 1
  | _ => 0

abbrev bufTy : (tb : Table) → Fin (tcTables nBuf tb) → BufTy
  | .hbm, ⟨0, _⟩ => ⟨S1024x4x62x128, .f32⟩
  | .hbm, ⟨1, _⟩ => ⟨S1024x62x4x128, .f32⟩
  | .hbm, ⟨2, _⟩ => ⟨S1024x248x128, .f32⟩
  | .hbm, ⟨3, _⟩ => ⟨S16x64, .i32⟩
  | .hbm, ⟨4, _⟩ => ⟨S16x248x128, .f32⟩
  | .hbm, ⟨5, _⟩ => ⟨S16x248x128, .f32⟩
  | .hbm, ⟨6, _⟩ => ⟨S1024x248x128, .f32⟩
  | .hbm, ⟨7, _⟩ => ⟨S1024x62x4x128, .f32⟩
  | .hbm, ⟨8, _⟩ => ⟨S1024x4x62x128, .f32⟩
  | .local _ .vmem, ⟨0, _⟩ => ⟨S16x64, .i32⟩
  | .local _ .vmem, ⟨1, _⟩ => ⟨S64x248x128, .f32⟩
  | .local _ .vmem, ⟨2, _⟩ => ⟨S64x248x128, .f32⟩
  | .local _ .vmem, ⟨3, _⟩ => ⟨S16x248x128, .f32⟩
  | .local _ .vmem, ⟨4, _⟩ => ⟨S16x248x128, .f32⟩
  | .local _ .vmem, ⟨5, _⟩ => ⟨S16x31744, .f32⟩
  | .local _ .vmem, ⟨6, _⟩ => ⟨S16x31744, .f32⟩
  | .local _ .vmem, ⟨7, _⟩ => ⟨S16x64, .f32⟩
  | .local _ .vmem, ⟨8, _⟩ => ⟨S64x248x128, .f32⟩
  | .local _ .vmem, ⟨9, _⟩ => ⟨S64x248x128, .f32⟩
  | .local _ .vmem, ⟨10, _⟩ => ⟨S16x248x128, .f32⟩
  | .local _ .vmem, ⟨11, _⟩ => ⟨S16x248x128, .f32⟩
  | .local _ .vmem, ⟨12, _⟩ => ⟨S64x248x128, .f32⟩
  | .local _ .vmem, ⟨13, _⟩ => ⟨S64x248x128, .f32⟩
  | .local _ .smem, ⟨0, _⟩ => ⟨S1024, .i32⟩
  | _, _ => ⟨S1024x4x62x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3_0 : Ref sig .tc := ⟨.hbm, 4, rfl⟩
abbrev main_v3_1 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_arg1 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10

abbrev nD : Nat := 1
abbrev τ : Topo := Topo.v7x

variable {F : FTy → Type} [FloatOps F]

abbrev grid0 : Pipeline.Grid := ⟨1, ![16], ![false]⟩

def k0_off1 (i : grid0.Coords) : Fin 2 → Nat :=
  let arg0 : BitVec 32 := BitVec.ofNat 32 (i 0).val
  let v0 : Index := Scalar.indexCast arg0
  let c0 : Index := 0#32
  ![v0.toNat, 0]
def k0_cond5 (i : grid0.Coords) : BitVec 1 :=
  let arg0 : BitVec 32 := BitVec.ofNat 32 (i 0).val
  let c15_i32 : BitVec 32 := 15#32
  let v26 : BitVec 1 := Scalar.cmpi .eq arg0 c15_i32
  let v27 : BitVec 32 := Scalar.extui v26
  let c0_i32_11 : BitVec 32 := 0#32
  let v28 : BitVec 1 := Scalar.cmpi .ne v27 c0_i32_11
  v28

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .vmem S16x64 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S64x248x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S16x248x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x248x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨1, ![16], ![false]⟩

abbrev pre1 : Pipeline.Prefetch sig := ⟨1, ![main_arg1.idx], fun | 0 => main_arg1.names | ⟨_ + 1, h⟩ => absurd h (Nat.not_lt.2 (Nat.le_add_left _ _)), fun | 0 => rfl | ⟨_ + 1, h⟩ => absurd h (Nat.not_lt.2 (Nat.le_add_left _ _))⟩

def k1_off1 (i : grid1.Coords) : Fin 1 → Nat :=
  let arg0 : BitVec 32 := BitVec.ofNat 32 (i 0).val
  let c64_i32 : BitVec 32 := 64#32
  let v0 : BitVec 32 := Scalar.muli arg0 c64_i32
  let c0_i32 : BitVec 32 := 0#32
  let v1 : BitVec 32 := Scalar.addi v0 c0_i32
  let v2 : Index := Scalar.indexCast v1
  ![v2.toNat]
def k1_off2 (v3 : BitVec 32) : Fin 3 → Nat :=
  let v6 : Index := Scalar.indexCast v3
  let c0_2 : Index := 0#32
  let c0_3 : Index := 0#32
  ![v6.toNat, 0, 0]

def k1_chk1 (v3 : BitVec 32) : Prop :=
  (∀ a, (k1_off2 v3) a + S1x248x128.size a ≤ S16x248x128.size a)
theorem k1_off2_inb : ∀ (v3 : BitVec 32) (k1_hw1 : k1_chk1 v3), ∀ a, (k1_off2 v3) a + S1x248x128.size a ≤ S16x248x128.size a := fun v3 k1_hw1 => k1_hw1

def k1_off3 (i : grid1.Coords) : Fin 1 → Nat :=
  let arg0 : BitVec 32 := BitVec.ofNat 32 (i 0).val
  let c64_i32_13 : BitVec 32 := 64#32
  let v33 : BitVec 32 := Scalar.muli arg0 c64_i32_13
  let c1_i32 : BitVec 32 := 1#32
  let v34 : BitVec 32 := Scalar.addi v33 c1_i32
  let v35 : Index := Scalar.indexCast v34
  ![v35.toNat]
def k1_off4 (v36 : BitVec 32) : Fin 3 → Nat :=
  let v39 : Index := Scalar.indexCast v36
  let c0_16 : Index := 0#32
  let c0_17 : Index := 0#32
  ![v39.toNat, 0, 0]

def k1_chk2 (v36 : BitVec 32) : Prop :=
  (∀ a, (k1_off4 v36) a + S1x248x128.size a ≤ S16x248x128.size a)
theorem k1_off4_inb : ∀ (v36 : BitVec 32) (k1_hw2 : k1_chk2 v36), ∀ a, (k1_off4 v36) a + S1x248x128.size a ≤ S16x248x128.size a := fun v36 k1_hw2 => k1_hw2

def k1_off5 (i : grid1.Coords) : Fin 1 → Nat :=
  let arg0 : BitVec 32 := BitVec.ofNat 32 (i 0).val
  let c64_i32_28 : BitVec 32 := 64#32
  let v66 : BitVec 32 := Scalar.muli arg0 c64_i32_28
  let c2_i32 : BitVec 32 := 2#32
  let v67 : BitVec 32 := Scalar.addi v66 c2_i32
  let v68 : Index := Scalar.indexCast v67
  ![v68.toNat]
def k1_off6 (v69 : BitVec 32) : Fin 3 → Nat :=
  let v72 : Index := Scalar.indexCast v69
  let c0_31 : Index := 0#32
  let c0_32 : Index := 0#32
  ![v72.toNat, 0, 0]

def k1_chk3 (v69 : BitVec 32) : Prop :=
  (∀ a, (k1_off6 v69) a + S1x248x128.size a ≤ S16x248x128.size a)
theorem k1_off6_inb : ∀ (v69 : BitVec 32) (k1_hw3 : k1_chk3 v69), ∀ a, (k1_off6 v69) a + S1x248x128.size a ≤ S16x248x128.size a := fun v69 k1_hw3 => k1_hw3

def k1_off7 (i : grid1.Coords) : Fin 1 → Nat :=
  let arg0 : BitVec 32 := BitVec.ofNat 32 (i 0).val
  let c64_i32_43 : BitVec 32 := 64#32
  let v99 : BitVec 32 := Scalar.muli arg0 c64_i32_43
  let c3_i32 : BitVec 32 := 3#32
  let v100 : BitVec 32 := Scalar.addi v99 c3_i32
  let v101 : Index := Scalar.indexCast v100
  ![v101.toNat]
def k1_off8 (v102 : BitVec 32) : Fin 3 → Nat :=
  let v105 : Index := Scalar.indexCast v102
  let c0_46 : Index := 0#32
  let c0_47 : Index := 0#32
  ![v105.toNat, 0, 0]

def k1_chk4 (v102 : BitVec 32) : Prop :=
  (∀ a, (k1_off8 v102) a + S1x248x128.size a ≤ S16x248x128.size a)
theorem k1_off8_inb : ∀ (v102 : BitVec 32) (k1_hw4 : k1_chk4 v102), ∀ a, (k1_off8 v102) a + S1x248x128.size a ≤ S16x248x128.size a := fun v102 k1_hw4 => k1_hw4

def k1_off9 (i : grid1.Coords) : Fin 1 → Nat :=
  let arg0 : BitVec 32 := BitVec.ofNat 32 (i 0).val
  let c64_i32_58 : BitVec 32 := 64#32
  let v132 : BitVec 32 := Scalar.muli arg0 c64_i32_58
  let c4_i32 : BitVec 32 := 4#32
  let v133 : BitVec 32 := Scalar.addi v132 c4_i32
  let v134 : Index := Scalar.indexCast v133
  ![v134.toNat]
def k1_off10 (v135 : BitVec 32) : Fin 3 → Nat :=
  let v138 : Index := Scalar.indexCast v135
  let c0_61 : Index := 0#32
  let c0_62 : Index := 0#32
  ![v138.toNat, 0, 0]

def k1_chk5 (v135 : BitVec 32) : Prop :=
  (∀ a, (k1_off10 v135) a + S1x248x128.size a ≤ S16x248x128.size a)
theorem k1_off10_inb : ∀ (v135 : BitVec 32) (k1_hw5 : k1_chk5 v135), ∀ a, (k1_off10 v135) a + S1x248x128.size a ≤ S16x248x128.size a := fun v135 k1_hw5 => k1_hw5

def k1_off11 (i : grid1.Coords) : Fin 1 → Nat :=
  let arg0 : BitVec 32 := BitVec.ofNat 32 (i 0).val
  let c64_i32_73 : BitVec 32 := 64#32
  let v165 : BitVec 32 := Scalar.muli arg0 c64_i32_73
  let c5_i32 : BitVec 32 := 5#32
  let v166 : BitVec 32 := Scalar.addi v165 c5_i32
  let v167 : Index := Scalar.indexCast v166
  ![v167.toNat]
def k1_off12 (v168 : BitVec 32) : Fin 3 → Nat :=
  let v171 : Index := Scalar.indexCast v168
  let c0_76 : Index := 0#32
  let c0_77 : Index := 0#32
  ![v171.toNat, 0, 0]

def k1_chk6 (v168 : BitVec 32) : Prop :=
  (∀ a, (k1_off12 v168) a + S1x248x128.size a ≤ S16x248x128.size a)
theorem k1_off12_inb : ∀ (v168 : BitVec 32) (k1_hw6 : k1_chk6 v168), ∀ a, (k1_off12 v168) a + S1x248x128.size a ≤ S16x248x128.size a := fun v168 k1_hw6 => k1_hw6

def k1_off13 (i : grid1.Coords) : Fin 1 → Nat :=
  let arg0 : BitVec 32 := BitVec.ofNat 32 (i 0).val
  let c64_i32_88 : BitVec 32 := 64#32
  let v198 : BitVec 32 := Scalar.muli arg0 c64_i32_88
  let c6_i32 : BitVec 32 := 6#32
  let v199 : BitVec 32 := Scalar.addi v198 c6_i32
  let v200 : Index := Scalar.indexCast v199
  ![v200.toNat]
def k1_off14 (v201 : BitVec 32) : Fin 3 → Nat :=
  let v204 : Index := Scalar.indexCast v201
  let c0_91 : Index := 0#32
  let c0_92 : Index := 0#32
  ![v204.toNat, 0, 0]

def k1_chk7 (v201 : BitVec 32) : Prop :=
  (∀ a, (k1_off14 v201) a + S1x248x128.size a ≤ S16x248x128.size a)
theorem k1_off14_inb : ∀ (v201 : BitVec 32) (k1_hw7 : k1_chk7 v201), ∀ a, (k1_off14 v201) a + S1x248x128.size a ≤ S16x248x128.size a := fun v201 k1_hw7 => k1_hw7

def k1_off15 (i : grid1.Coords) : Fin 1 → Nat :=
  let arg0 : BitVec 32 := BitVec.ofNat 32 (i 0).val
  let c64_i32_103 : BitVec 32 := 64#32
  let v231 : BitVec 32 := Scalar.muli arg0 c64_i32_103
  let c7_i32 : BitVec 32 := 7#32
  let v232 : BitVec 32 := Scalar.addi v231 c7_i32
  let v233 : Index := Scalar.indexCast v232
  ![v233.toNat]
def k1_off16 (v234 : BitVec 32) : Fin 3 → Nat :=
  let v237 : Index := Scalar.indexCast v234
  let c0_106 : Index := 0#32
  let c0_107 : Index := 0#32
  ![v237.toNat, 0, 0]

def k1_chk8 (v234 : BitVec 32) : Prop :=
  (∀ a, (k1_off16 v234) a + S1x248x128.size a ≤ S16x248x128.size a)
theorem k1_off16_inb : ∀ (v234 : BitVec 32) (k1_hw8 : k1_chk8 v234), ∀ a, (k1_off16 v234) a + S1x248x128.size a ≤ S16x248x128.size a := fun v234 k1_hw8 => k1_hw8

def k1_off17 (i : grid1.Coords) : Fin 1 → Nat :=
  let arg0 : BitVec 32 := BitVec.ofNat 32 (i 0).val
  let c64_i32_118 : BitVec 32 := 64#32
  let v264 : BitVec 32 := Scalar.muli arg0 c64_i32_118
  let c8_i32 : BitVec 32 := 8#32
  let v265 : BitVec 32 := Scalar.addi v264 c8_i32
  let v266 : Index := Scalar.indexCast v265
  ![v266.toNat]
def k1_off18 (v267 : BitVec 32) : Fin 3 → Nat :=
  let v270 : Index := Scalar.indexCast v267
  let c0_121 : Index := 0#32
  let c0_122 : Index := 0#32
  ![v270.toNat, 0, 0]

def k1_chk9 (v267 : BitVec 32) : Prop :=
  (∀ a, (k1_off18 v267) a + S1x248x128.size a ≤ S16x248x128.size a)
theorem k1_off18_inb : ∀ (v267 : BitVec 32) (k1_hw9 : k1_chk9 v267), ∀ a, (k1_off18 v267) a + S1x248x128.size a ≤ S16x248x128.size a := fun v267 k1_hw9 => k1_hw9

def k1_off19 (i : grid1.Coords) : Fin 1 → Nat :=
  let arg0 : BitVec 32 := BitVec.ofNat 32 (i 0).val
  let c64_i32_133 : BitVec 32 := 64#32
  let v297 : BitVec 32 := Scalar.muli arg0 c64_i32_133
  let c9_i32 : BitVec 32 := 9#32
  let v298 : BitVec 32 := Scalar.addi v297 c9_i32
  let v299 : Index := Scalar.indexCast v298
  ![v299.toNat]
def k1_off20 (v300 : BitVec 32) : Fin 3 → Nat :=
  let v303 : Index := Scalar.indexCast v300
  let c0_136 : Index := 0#32
  let c0_137 : Index := 0#32
  ![v303.toNat, 0, 0]

def k1_chk10 (v300 : BitVec 32) : Prop :=
  (∀ a, (k1_off20 v300) a + S1x248x128.size a ≤ S16x248x128.size a)
theorem k1_off20_inb : ∀ (v300 : BitVec 32) (k1_hw10 : k1_chk10 v300), ∀ a, (k1_off20 v300) a + S1x248x128.size a ≤ S16x248x128.size a := fun v300 k1_hw10 => k1_hw10

def k1_off21 (i : grid1.Coords) : Fin 1 → Nat :=
  let arg0 : BitVec 32 := BitVec.ofNat 32 (i 0).val
  let c64_i32_148 : BitVec 32 := 64#32
  let v330 : BitVec 32 := Scalar.muli arg0 c64_i32_148
  let c10_i32 : BitVec 32 := 10#32
  let v331 : BitVec 32 := Scalar.addi v330 c10_i32
  let v332 : Index := Scalar.indexCast v331
  ![v332.toNat]
def k1_off22 (v333 : BitVec 32) : Fin 3 → Nat :=
  let v336 : Index := Scalar.indexCast v333
  let c0_151 : Index := 0#32
  let c0_152 : Index := 0#32
  ![v336.toNat, 0, 0]

def k1_chk11 (v333 : BitVec 32) : Prop :=
  (∀ a, (k1_off22 v333) a + S1x248x128.size a ≤ S16x248x128.size a)
theorem k1_off22_inb : ∀ (v333 : BitVec 32) (k1_hw11 : k1_chk11 v333), ∀ a, (k1_off22 v333) a + S1x248x128.size a ≤ S16x248x128.size a := fun v333 k1_hw11 => k1_hw11

def k1_off23 (i : grid1.Coords) : Fin 1 → Nat :=
  let arg0 : BitVec 32 := BitVec.ofNat 32 (i 0).val
  let c64_i32_163 : BitVec 32 := 64#32
  let v363 : BitVec 32 := Scalar.muli arg0 c64_i32_163
  let c11_i32 : BitVec 32 := 11#32
  let v364 : BitVec 32 := Scalar.addi v363 c11_i32
  let v365 : Index := Scalar.indexCast v364
  ![v365.toNat]
def k1_off24 (v366 : BitVec 32) : Fin 3 → Nat :=
  let v369 : Index := Scalar.indexCast v366
  let c0_166 : Index := 0#32
  let c0_167 : Index := 0#32
  ![v369.toNat, 0, 0]

def k1_chk12 (v366 : BitVec 32) : Prop :=
  (∀ a, (k1_off24 v366) a + S1x248x128.size a ≤ S16x248x128.size a)
theorem k1_off24_inb : ∀ (v366 : BitVec 32) (k1_hw12 : k1_chk12 v366), ∀ a, (k1_off24 v366) a + S1x248x128.size a ≤ S16x248x128.size a := fun v366 k1_hw12 => k1_hw12

def k1_off25 (i : grid1.Coords) : Fin 1 → Nat :=
  let arg0 : BitVec 32 := BitVec.ofNat 32 (i 0).val
  let c64_i32_178 : BitVec 32 := 64#32
  let v396 : BitVec 32 := Scalar.muli arg0 c64_i32_178
  let c12_i32 : BitVec 32 := 12#32
  let v397 : BitVec 32 := Scalar.addi v396 c12_i32
  let v398 : Index := Scalar.indexCast v397
  ![v398.toNat]
def k1_off26 (v399 : BitVec 32) : Fin 3 → Nat :=
  let v402 : Index := Scalar.indexCast v399
  let c0_181 : Index := 0#32
  let c0_182 : Index := 0#32
  ![v402.toNat, 0, 0]

def k1_chk13 (v399 : BitVec 32) : Prop :=
  (∀ a, (k1_off26 v399) a + S1x248x128.size a ≤ S16x248x128.size a)
theorem k1_off26_inb : ∀ (v399 : BitVec 32) (k1_hw13 : k1_chk13 v399), ∀ a, (k1_off26 v399) a + S1x248x128.size a ≤ S16x248x128.size a := fun v399 k1_hw13 => k1_hw13

def k1_off27 (i : grid1.Coords) : Fin 1 → Nat :=
  let arg0 : BitVec 32 := BitVec.ofNat 32 (i 0).val
  let c64_i32_193 : BitVec 32 := 64#32
  let v429 : BitVec 32 := Scalar.muli arg0 c64_i32_193
  let c13_i32 : BitVec 32 := 13#32
  let v430 : BitVec 32 := Scalar.addi v429 c13_i32
  let v431 : Index := Scalar.indexCast v430
  ![v431.toNat]
def k1_off28 (v432 : BitVec 32) : Fin 3 → Nat :=
  let v435 : Index := Scalar.indexCast v432
  let c0_196 : Index := 0#32
  let c0_197 : Index := 0#32
  ![v435.toNat, 0, 0]

def k1_chk14 (v432 : BitVec 32) : Prop :=
  (∀ a, (k1_off28 v432) a + S1x248x128.size a ≤ S16x248x128.size a)
theorem k1_off28_inb : ∀ (v432 : BitVec 32) (k1_hw14 : k1_chk14 v432), ∀ a, (k1_off28 v432) a + S1x248x128.size a ≤ S16x248x128.size a := fun v432 k1_hw14 => k1_hw14

def k1_off29 (i : grid1.Coords) : Fin 1 → Nat :=
  let arg0 : BitVec 32 := BitVec.ofNat 32 (i 0).val
  let c64_i32_208 : BitVec 32 := 64#32
  let v462 : BitVec 32 := Scalar.muli arg0 c64_i32_208
  let c14_i32 : BitVec 32 := 14#32
  let v463 : BitVec 32 := Scalar.addi v462 c14_i32
  let v464 : Index := Scalar.indexCast v463
  ![v464.toNat]
def k1_off30 (v465 : BitVec 32) : Fin 3 → Nat :=
  let v468 : Index := Scalar.indexCast v465
  let c0_211 : Index := 0#32
  let c0_212 : Index := 0#32
  ![v468.toNat, 0, 0]

def k1_chk15 (v465 : BitVec 32) : Prop :=
  (∀ a, (k1_off30 v465) a + S1x248x128.size a ≤ S16x248x128.size a)
theorem k1_off30_inb : ∀ (v465 : BitVec 32) (k1_hw15 : k1_chk15 v465), ∀ a, (k1_off30 v465) a + S1x248x128.size a ≤ S16x248x128.size a := fun v465 k1_hw15 => k1_hw15

def k1_off31 (i : grid1.Coords) : Fin 1 → Nat :=
  let arg0 : BitVec 32 := BitVec.ofNat 32 (i 0).val
  let c64_i32_223 : BitVec 32 := 64#32
  let v495 : BitVec 32 := Scalar.muli arg0 c64_i32_223
  let c15_i32 : BitVec 32 := 15#32
  let v496 : BitVec 32 := Scalar.addi v495 c15_i32
  let v497 : Index := Scalar.indexCast v496
  ![v497.toNat]
def k1_off32 (v498 : BitVec 32) : Fin 3 → Nat :=
  let v501 : Index := Scalar.indexCast v498
  let c0_226 : Index := 0#32
  let c0_227 : Index := 0#32
  ![v501.toNat, 0, 0]

def k1_chk16 (v498 : BitVec 32) : Prop :=
  (∀ a, (k1_off32 v498) a + S1x248x128.size a ≤ S16x248x128.size a)
theorem k1_off32_inb : ∀ (v498 : BitVec 32) (k1_hw16 : k1_chk16 v498), ∀ a, (k1_off32 v498) a + S1x248x128.size a ≤ S16x248x128.size a := fun v498 k1_hw16 => k1_hw16

def k1_off33 (i : grid1.Coords) : Fin 1 → Nat :=
  let arg0 : BitVec 32 := BitVec.ofNat 32 (i 0).val
  let c64_i32_238 : BitVec 32 := 64#32
  let v528 : BitVec 32 := Scalar.muli arg0 c64_i32_238
  let c16_i32 : BitVec 32 := 16#32
  let v529 : BitVec 32 := Scalar.addi v528 c16_i32
  let v530 : Index := Scalar.indexCast v529
  ![v530.toNat]
def k1_off34 (v531 : BitVec 32) : Fin 3 → Nat :=
  let v534 : Index := Scalar.indexCast v531
  let c0_241 : Index := 0#32
  let c0_242 : Index := 0#32
  ![v534.toNat, 0, 0]

def k1_chk17 (v531 : BitVec 32) : Prop :=
  (∀ a, (k1_off34 v531) a + S1x248x128.size a ≤ S16x248x128.size a)
theorem k1_off34_inb : ∀ (v531 : BitVec 32) (k1_hw17 : k1_chk17 v531), ∀ a, (k1_off34 v531) a + S1x248x128.size a ≤ S16x248x128.size a := fun v531 k1_hw17 => k1_hw17

def k1_off35 (i : grid1.Coords) : Fin 1 → Nat :=
  let arg0 : BitVec 32 := BitVec.ofNat 32 (i 0).val
  let c64_i32_253 : BitVec 32 := 64#32
  let v561 : BitVec 32 := Scalar.muli arg0 c64_i32_253
  let c17_i32 : BitVec 32 := 17#32
  let v562 : BitVec 32 := Scalar.addi v561 c17_i32
  let v563 : Index := Scalar.indexCast v562
  ![v563.toNat]
def k1_off36 (v564 : BitVec 32) : Fin 3 → Nat :=
  let v567 : Index := Scalar.indexCast v564
  let c0_256 : Index := 0#32
  let c0_257 : Index := 0#32
  ![v567.toNat, 0, 0]

def k1_chk18 (v564 : BitVec 32) : Prop :=
  (∀ a, (k1_off36 v564) a + S1x248x128.size a ≤ S16x248x128.size a)
theorem k1_off36_inb : ∀ (v564 : BitVec 32) (k1_hw18 : k1_chk18 v564), ∀ a, (k1_off36 v564) a + S1x248x128.size a ≤ S16x248x128.size a := fun v564 k1_hw18 => k1_hw18

def k1_off37 (i : grid1.Coords) : Fin 1 → Nat :=
  let arg0 : BitVec 32 := BitVec.ofNat 32 (i 0).val
  let c64_i32_268 : BitVec 32 := 64#32
  let v594 : BitVec 32 := Scalar.muli arg0 c64_i32_268
  let c18_i32 : BitVec 32 := 18#32
  let v595 : BitVec 32 := Scalar.addi v594 c18_i32
  let v596 : Index := Scalar.indexCast v595
  ![v596.toNat]
def k1_off38 (v597 : BitVec 32) : Fin 3 → Nat :=
  let v600 : Index := Scalar.indexCast v597
  let c0_271 : Index := 0#32
  let c0_272 : Index := 0#32
  ![v600.toNat, 0, 0]

def k1_chk19 (v597 : BitVec 32) : Prop :=
  (∀ a, (k1_off38 v597) a + S1x248x128.size a ≤ S16x248x128.size a)
theorem k1_off38_inb : ∀ (v597 : BitVec 32) (k1_hw19 : k1_chk19 v597), ∀ a, (k1_off38 v597) a + S1x248x128.size a ≤ S16x248x128.size a := fun v597 k1_hw19 => k1_hw19

def k1_off39 (i : grid1.Coords) : Fin 1 → Nat :=
  let arg0 : BitVec 32 := BitVec.ofNat 32 (i 0).val
  let c64_i32_283 : BitVec 32 := 64#32
  let v627 : BitVec 32 := Scalar.muli arg0 c64_i32_283
  let c19_i32 : BitVec 32 := 19#32
  let v628 : BitVec 32 := Scalar.addi v627 c19_i32
  let v629 : Index := Scalar.indexCast v628
  ![v629.toNat]
def k1_off40 (v630 : BitVec 32) : Fin 3 → Nat :=
  let v633 : Index := Scalar.indexCast v630
  let c0_286 : Index := 0#32
  let c0_287 : Index := 0#32
  ![v633.toNat, 0, 0]

def k1_chk20 (v630 : BitVec 32) : Prop :=
  (∀ a, (k1_off40 v630) a + S1x248x128.size a ≤ S16x248x128.size a)
theorem k1_off40_inb : ∀ (v630 : BitVec 32) (k1_hw20 : k1_chk20 v630), ∀ a, (k1_off40 v630) a + S1x248x128.size a ≤ S16x248x128.size a := fun v630 k1_hw20 => k1_hw20

def k1_off41 (i : grid1.Coords) : Fin 1 → Nat :=
  let arg0 : BitVec 32 := BitVec.ofNat 32 (i 0).val
  let c64_i32_298 : BitVec 32 := 64#32
  let v660 : BitVec 32 := Scalar.muli arg0 c64_i32_298
  let c20_i32 : BitVec 32 := 20#32
  let v661 : BitVec 32 := Scalar.addi v660 c20_i32
  let v662 : Index := Scalar.indexCast v661
  ![v662.toNat]
def k1_off42 (v663 : BitVec 32) : Fin 3 → Nat :=
  let v666 : Index := Scalar.indexCast v663
  let c0_301 : Index := 0#32
  let c0_302 : Index := 0#32
  ![v666.toNat, 0, 0]

def k1_chk21 (v663 : BitVec 32) : Prop :=
  (∀ a, (k1_off42 v663) a + S1x248x128.size a ≤ S16x248x128.size a)
theorem k1_off42_inb : ∀ (v663 : BitVec 32) (k1_hw21 : k1_chk21 v663), ∀ a, (k1_off42 v663) a + S1x248x128.size a ≤ S16x248x128.size a := fun v663 k1_hw21 => k1_hw21

def k1_off43 (i : grid1.Coords) : Fin 1 → Nat :=
  let arg0 : BitVec 32 := BitVec.ofNat 32 (i 0).val
  let c64_i32_313 : BitVec 32 := 64#32
  let v693 : BitVec 32 := Scalar.muli arg0 c64_i32_313
  let c21_i32 : BitVec 32 := 21#32
  let v694 : BitVec 32 := Scalar.addi v693 c21_i32
  let v695 : Index := Scalar.indexCast v694
  ![v695.toNat]
def k1_off44 (v696 : BitVec 32) : Fin 3 → Nat :=
  let v699 : Index := Scalar.indexCast v696
  let c0_316 : Index := 0#32
  let c0_317 : Index := 0#32
  ![v699.toNat, 0, 0]

def k1_chk22 (v696 : BitVec 32) : Prop :=
  (∀ a, (k1_off44 v696) a + S1x248x128.size a ≤ S16x248x128.size a)
theorem k1_off44_inb : ∀ (v696 : BitVec 32) (k1_hw22 : k1_chk22 v696), ∀ a, (k1_off44 v696) a + S1x248x128.size a ≤ S16x248x128.size a := fun v696 k1_hw22 => k1_hw22

def k1_off45 (i : grid1.Coords) : Fin 1 → Nat :=
  let arg0 : BitVec 32 := BitVec.ofNat 32 (i 0).val
  let c64_i32_328 : BitVec 32 := 64#32
  let v726 : BitVec 32 := Scalar.muli arg0 c64_i32_328
  let c22_i32 : BitVec 32 := 22#32
  let v727 : BitVec 32 := Scalar.addi v726 c22_i32
  let v728 : Index := Scalar.indexCast v727
  ![v728.toNat]
def k1_off46 (v729 : BitVec 32) : Fin 3 → Nat :=
  let v732 : Index := Scalar.indexCast v729
  let c0_331 : Index := 0#32
  let c0_332 : Index := 0#32
  ![v732.toNat, 0, 0]

def k1_chk23 (v729 : BitVec 32) : Prop :=
  (∀ a, (k1_off46 v729) a + S1x248x128.size a ≤ S16x248x128.size a)
theorem k1_off46_inb : ∀ (v729 : BitVec 32) (k1_hw23 : k1_chk23 v729), ∀ a, (k1_off46 v729) a + S1x248x128.size a ≤ S16x248x128.size a := fun v729 k1_hw23 => k1_hw23

def k1_off47 (i : grid1.Coords) : Fin 1 → Nat :=
  let arg0 : BitVec 32 := BitVec.ofNat 32 (i 0).val
  let c64_i32_343 : BitVec 32 := 64#32
  let v759 : BitVec 32 := Scalar.muli arg0 c64_i32_343
  let c23_i32 : BitVec 32 := 23#32
  let v760 : BitVec 32 := Scalar.addi v759 c23_i32
  let v761 : Index := Scalar.indexCast v760
  ![v761.toNat]
def k1_off48 (v762 : BitVec 32) : Fin 3 → Nat :=
  let v765 : Index := Scalar.indexCast v762
  let c0_346 : Index := 0#32
  let c0_347 : Index := 0#32
  ![v765.toNat, 0, 0]

def k1_chk24 (v762 : BitVec 32) : Prop :=
  (∀ a, (k1_off48 v762) a + S1x248x128.size a ≤ S16x248x128.size a)
theorem k1_off48_inb : ∀ (v762 : BitVec 32) (k1_hw24 : k1_chk24 v762), ∀ a, (k1_off48 v762) a + S1x248x128.size a ≤ S16x248x128.size a := fun v762 k1_hw24 => k1_hw24

def k1_off49 (i : grid1.Coords) : Fin 1 → Nat :=
  let arg0 : BitVec 32 := BitVec.ofNat 32 (i 0).val
  let c64_i32_358 : BitVec 32 := 64#32
  let v792 : BitVec 32 := Scalar.muli arg0 c64_i32_358
  let c24_i32 : BitVec 32 := 24#32
  let v793 : BitVec 32 := Scalar.addi v792 c24_i32
  let v794 : Index := Scalar.indexCast v793
  ![v794.toNat]
def k1_off50 (v795 : BitVec 32) : Fin 3 → Nat :=
  let v798 : Index := Scalar.indexCast v795
  let c0_361 : Index := 0#32
  let c0_362 : Index := 0#32
  ![v798.toNat, 0, 0]

def k1_chk25 (v795 : BitVec 32) : Prop :=
  (∀ a, (k1_off50 v795) a + S1x248x128.size a ≤ S16x248x128.size a)
theorem k1_off50_inb : ∀ (v795 : BitVec 32) (k1_hw25 : k1_chk25 v795), ∀ a, (k1_off50 v795) a + S1x248x128.size a ≤ S16x248x128.size a := fun v795 k1_hw25 => k1_hw25

def k1_off51 (i : grid1.Coords) : Fin 1 → Nat :=
  let arg0 : BitVec 32 := BitVec.ofNat 32 (i 0).val
  let c64_i32_373 : BitVec 32 := 64#32
  let v825 : BitVec 32 := Scalar.muli arg0 c64_i32_373
  let c25_i32 : BitVec 32 := 25#32
  let v826 : BitVec 32 := Scalar.addi v825 c25_i32
  let v827 : Index := Scalar.indexCast v826
  ![v827.toNat]
def k1_off52 (v828 : BitVec 32) : Fin 3 → Nat :=
  let v831 : Index := Scalar.indexCast v828
  let c0_376 : Index := 0#32
  let c0_377 : Index := 0#32
  ![v831.toNat, 0, 0]

def k1_chk26 (v828 : BitVec 32) : Prop :=
  (∀ a, (k1_off52 v828) a + S1x248x128.size a ≤ S16x248x128.size a)
theorem k1_off52_inb : ∀ (v828 : BitVec 32) (k1_hw26 : k1_chk26 v828), ∀ a, (k1_off52 v828) a + S1x248x128.size a ≤ S16x248x128.size a := fun v828 k1_hw26 => k1_hw26

def k1_off53 (i : grid1.Coords) : Fin 1 → Nat :=
  let arg0 : BitVec 32 := BitVec.ofNat 32 (i 0).val
  let c64_i32_388 : BitVec 32 := 64#32
  let v858 : BitVec 32 := Scalar.muli arg0 c64_i32_388
  let c26_i32 : BitVec 32 := 26#32
  let v859 : BitVec 32 := Scalar.addi v858 c26_i32
  let v860 : Index := Scalar.indexCast v859
  ![v860.toNat]
def k1_off54 (v861 : BitVec 32) : Fin 3 → Nat :=
  let v864 : Index := Scalar.indexCast v861
  let c0_391 : Index := 0#32
  let c0_392 : Index := 0#32
  ![v864.toNat, 0, 0]

def k1_chk27 (v861 : BitVec 32) : Prop :=
  (∀ a, (k1_off54 v861) a + S1x248x128.size a ≤ S16x248x128.size a)
theorem k1_off54_inb : ∀ (v861 : BitVec 32) (k1_hw27 : k1_chk27 v861), ∀ a, (k1_off54 v861) a + S1x248x128.size a ≤ S16x248x128.size a := fun v861 k1_hw27 => k1_hw27

def k1_off55 (i : grid1.Coords) : Fin 1 → Nat :=
  let arg0 : BitVec 32 := BitVec.ofNat 32 (i 0).val
  let c64_i32_403 : BitVec 32 := 64#32
  let v891 : BitVec 32 := Scalar.muli arg0 c64_i32_403
  let c27_i32 : BitVec 32 := 27#32
  let v892 : BitVec 32 := Scalar.addi v891 c27_i32
  let v893 : Index := Scalar.indexCast v892
  ![v893.toNat]
def k1_off56 (v894 : BitVec 32) : Fin 3 → Nat :=
  let v897 : Index := Scalar.indexCast v894
  let c0_406 : Index := 0#32
  let c0_407 : Index := 0#32
  ![v897.toNat, 0, 0]

def k1_chk28 (v894 : BitVec 32) : Prop :=
  (∀ a, (k1_off56 v894) a + S1x248x128.size a ≤ S16x248x128.size a)
theorem k1_off56_inb : ∀ (v894 : BitVec 32) (k1_hw28 : k1_chk28 v894), ∀ a, (k1_off56 v894) a + S1x248x128.size a ≤ S16x248x128.size a := fun v894 k1_hw28 => k1_hw28

def k1_off57 (i : grid1.Coords) : Fin 1 → Nat :=
  let arg0 : BitVec 32 := BitVec.ofNat 32 (i 0).val
  let c64_i32_418 : BitVec 32 := 64#32
  let v924 : BitVec 32 := Scalar.muli arg0 c64_i32_418
  let c28_i32 : BitVec 32 := 28#32
  let v925 : BitVec 32 := Scalar.addi v924 c28_i32
  let v926 : Index := Scalar.indexCast v925
  ![v926.toNat]
def k1_off58 (v927 : BitVec 32) : Fin 3 → Nat :=
  let v930 : Index := Scalar.indexCast v927
  let c0_421 : Index := 0#32
  let c0_422 : Index := 0#32
  ![v930.toNat, 0, 0]

def k1_chk29 (v927 : BitVec 32) : Prop :=
  (∀ a, (k1_off58 v927) a + S1x248x128.size a ≤ S16x248x128.size a)
theorem k1_off58_inb : ∀ (v927 : BitVec 32) (k1_hw29 : k1_chk29 v927), ∀ a, (k1_off58 v927) a + S1x248x128.size a ≤ S16x248x128.size a := fun v927 k1_hw29 => k1_hw29

def k1_off59 (i : grid1.Coords) : Fin 1 → Nat :=
  let arg0 : BitVec 32 := BitVec.ofNat 32 (i 0).val
  let c64_i32_433 : BitVec 32 := 64#32
  let v957 : BitVec 32 := Scalar.muli arg0 c64_i32_433
  let c29_i32 : BitVec 32 := 29#32
  let v958 : BitVec 32 := Scalar.addi v957 c29_i32
  let v959 : Index := Scalar.indexCast v958
  ![v959.toNat]
def k1_off60 (v960 : BitVec 32) : Fin 3 → Nat :=
  let v963 : Index := Scalar.indexCast v960
  let c0_436 : Index := 0#32
  let c0_437 : Index := 0#32
  ![v963.toNat, 0, 0]

def k1_chk30 (v960 : BitVec 32) : Prop :=
  (∀ a, (k1_off60 v960) a + S1x248x128.size a ≤ S16x248x128.size a)
theorem k1_off60_inb : ∀ (v960 : BitVec 32) (k1_hw30 : k1_chk30 v960), ∀ a, (k1_off60 v960) a + S1x248x128.size a ≤ S16x248x128.size a := fun v960 k1_hw30 => k1_hw30

def k1_off61 (i : grid1.Coords) : Fin 1 → Nat :=
  let arg0 : BitVec 32 := BitVec.ofNat 32 (i 0).val
  let c64_i32_448 : BitVec 32 := 64#32
  let v990 : BitVec 32 := Scalar.muli arg0 c64_i32_448
  let c30_i32 : BitVec 32 := 30#32
  let v991 : BitVec 32 := Scalar.addi v990 c30_i32
  let v992 : Index := Scalar.indexCast v991
  ![v992.toNat]
def k1_off62 (v993 : BitVec 32) : Fin 3 → Nat :=
  let v996 : Index := Scalar.indexCast v993
  let c0_451 : Index := 0#32
  let c0_452 : Index := 0#32
  ![v996.toNat, 0, 0]

def k1_chk31 (v993 : BitVec 32) : Prop :=
  (∀ a, (k1_off62 v993) a + S1x248x128.size a ≤ S16x248x128.size a)
theorem k1_off62_inb : ∀ (v993 : BitVec 32) (k1_hw31 : k1_chk31 v993), ∀ a, (k1_off62 v993) a + S1x248x128.size a ≤ S16x248x128.size a := fun v993 k1_hw31 => k1_hw31

def k1_off63 (i : grid1.Coords) : Fin 1 → Nat :=
  let arg0 : BitVec 32 := BitVec.ofNat 32 (i 0).val
  let c64_i32_463 : BitVec 32 := 64#32
  let v1023 : BitVec 32 := Scalar.muli arg0 c64_i32_463
  let c31_i32 : BitVec 32 := 31#32
  let v1024 : BitVec 32 := Scalar.addi v1023 c31_i32
  let v1025 : Index := Scalar.indexCast v1024
  ![v1025.toNat]
def k1_off64 (v1026 : BitVec 32) : Fin 3 → Nat :=
  let v1029 : Index := Scalar.indexCast v1026
  let c0_466 : Index := 0#32
  let c0_467 : Index := 0#32
  ![v1029.toNat, 0, 0]

def k1_chk32 (v1026 : BitVec 32) : Prop :=
  (∀ a, (k1_off64 v1026) a + S1x248x128.size a ≤ S16x248x128.size a)
theorem k1_off64_inb : ∀ (v1026 : BitVec 32) (k1_hw32 : k1_chk32 v1026), ∀ a, (k1_off64 v1026) a + S1x248x128.size a ≤ S16x248x128.size a := fun v1026 k1_hw32 => k1_hw32

def k1_off65 (i : grid1.Coords) : Fin 1 → Nat :=
  let arg0 : BitVec 32 := BitVec.ofNat 32 (i 0).val
  let c64_i32_478 : BitVec 32 := 64#32
  let v1056 : BitVec 32 := Scalar.muli arg0 c64_i32_478
  let c32_i32 : BitVec 32 := 32#32
  let v1057 : BitVec 32 := Scalar.addi v1056 c32_i32
  let v1058 : Index := Scalar.indexCast v1057
  ![v1058.toNat]
def k1_off66 (v1059 : BitVec 32) : Fin 3 → Nat :=
  let v1062 : Index := Scalar.indexCast v1059
  let c0_481 : Index := 0#32
  let c0_482 : Index := 0#32
  ![v1062.toNat, 0, 0]

def k1_chk33 (v1059 : BitVec 32) : Prop :=
  (∀ a, (k1_off66 v1059) a + S1x248x128.size a ≤ S16x248x128.size a)
theorem k1_off66_inb : ∀ (v1059 : BitVec 32) (k1_hw33 : k1_chk33 v1059), ∀ a, (k1_off66 v1059) a + S1x248x128.size a ≤ S16x248x128.size a := fun v1059 k1_hw33 => k1_hw33

def k1_off67 (i : grid1.Coords) : Fin 1 → Nat :=
  let arg0 : BitVec 32 := BitVec.ofNat 32 (i 0).val
  let c64_i32_493 : BitVec 32 := 64#32
  let v1089 : BitVec 32 := Scalar.muli arg0 c64_i32_493
  let c33_i32 : BitVec 32 := 33#32
  let v1090 : BitVec 32 := Scalar.addi v1089 c33_i32
  let v1091 : Index := Scalar.indexCast v1090
  ![v1091.toNat]
def k1_off68 (v1092 : BitVec 32) : Fin 3 → Nat :=
  let v1095 : Index := Scalar.indexCast v1092
  let c0_496 : Index := 0#32
  let c0_497 : Index := 0#32
  ![v1095.toNat, 0, 0]

def k1_chk34 (v1092 : BitVec 32) : Prop :=
  (∀ a, (k1_off68 v1092) a + S1x248x128.size a ≤ S16x248x128.size a)
theorem k1_off68_inb : ∀ (v1092 : BitVec 32) (k1_hw34 : k1_chk34 v1092), ∀ a, (k1_off68 v1092) a + S1x248x128.size a ≤ S16x248x128.size a := fun v1092 k1_hw34 => k1_hw34

def k1_off69 (i : grid1.Coords) : Fin 1 → Nat :=
  let arg0 : BitVec 32 := BitVec.ofNat 32 (i 0).val
  let c64_i32_508 : BitVec 32 := 64#32
  let v1122 : BitVec 32 := Scalar.muli arg0 c64_i32_508
  let c34_i32 : BitVec 32 := 34#32
  let v1123 : BitVec 32 := Scalar.addi v1122 c34_i32
  let v1124 : Index := Scalar.indexCast v1123
  ![v1124.toNat]
def k1_off70 (v1125 : BitVec 32) : Fin 3 → Nat :=
  let v1128 : Index := Scalar.indexCast v1125
  let c0_511 : Index := 0#32
  let c0_512 : Index := 0#32
  ![v1128.toNat, 0, 0]

def k1_chk35 (v1125 : BitVec 32) : Prop :=
  (∀ a, (k1_off70 v1125) a + S1x248x128.size a ≤ S16x248x128.size a)
theorem k1_off70_inb : ∀ (v1125 : BitVec 32) (k1_hw35 : k1_chk35 v1125), ∀ a, (k1_off70 v1125) a + S1x248x128.size a ≤ S16x248x128.size a := fun v1125 k1_hw35 => k1_hw35

def k1_off71 (i : grid1.Coords) : Fin 1 → Nat :=
  let arg0 : BitVec 32 := BitVec.ofNat 32 (i 0).val
  let c64_i32_523 : BitVec 32 := 64#32
  let v1155 : BitVec 32 := Scalar.muli arg0 c64_i32_523
  let c35_i32 : BitVec 32 := 35#32
  let v1156 : BitVec 32 := Scalar.addi v1155 c35_i32
  let v1157 : Index := Scalar.indexCast v1156
  ![v1157.toNat]
def k1_off72 (v1158 : BitVec 32) : Fin 3 → Nat :=
  let v1161 : Index := Scalar.indexCast v1158
  let c0_526 : Index := 0#32
  let c0_527 : Index := 0#32
  ![v1161.toNat, 0, 0]

def k1_chk36 (v1158 : BitVec 32) : Prop :=
  (∀ a, (k1_off72 v1158) a + S1x248x128.size a ≤ S16x248x128.size a)
theorem k1_off72_inb : ∀ (v1158 : BitVec 32) (k1_hw36 : k1_chk36 v1158), ∀ a, (k1_off72 v1158) a + S1x248x128.size a ≤ S16x248x128.size a := fun v1158 k1_hw36 => k1_hw36

def k1_off73 (i : grid1.Coords) : Fin 1 → Nat :=
  let arg0 : BitVec 32 := BitVec.ofNat 32 (i 0).val
  let c64_i32_538 : BitVec 32 := 64#32
  let v1188 : BitVec 32 := Scalar.muli arg0 c64_i32_538
  let c36_i32 : BitVec 32 := 36#32
  let v1189 : BitVec 32 := Scalar.addi v1188 c36_i32
  let v1190 : Index := Scalar.indexCast v1189
  ![v1190.toNat]
def k1_off74 (v1191 : BitVec 32) : Fin 3 → Nat :=
  let v1194 : Index := Scalar.indexCast v1191
  let c0_541 : Index := 0#32
  let c0_542 : Index := 0#32
  ![v1194.toNat, 0, 0]

def k1_chk37 (v1191 : BitVec 32) : Prop :=
  (∀ a, (k1_off74 v1191) a + S1x248x128.size a ≤ S16x248x128.size a)
theorem k1_off74_inb : ∀ (v1191 : BitVec 32) (k1_hw37 : k1_chk37 v1191), ∀ a, (k1_off74 v1191) a + S1x248x128.size a ≤ S16x248x128.size a := fun v1191 k1_hw37 => k1_hw37

def k1_off75 (i : grid1.Coords) : Fin 1 → Nat :=
  let arg0 : BitVec 32 := BitVec.ofNat 32 (i 0).val
  let c64_i32_553 : BitVec 32 := 64#32
  let v1221 : BitVec 32 := Scalar.muli arg0 c64_i32_553
  let c37_i32 : BitVec 32 := 37#32
  let v1222 : BitVec 32 := Scalar.addi v1221 c37_i32
  let v1223 : Index := Scalar.indexCast v1222
  ![v1223.toNat]
def k1_off76 (v1224 : BitVec 32) : Fin 3 → Nat :=
  let v1227 : Index := Scalar.indexCast v1224
  let c0_556 : Index := 0#32
  let c0_557 : Index := 0#32
  ![v1227.toNat, 0, 0]

def k1_chk38 (v1224 : BitVec 32) : Prop :=
  (∀ a, (k1_off76 v1224) a + S1x248x128.size a ≤ S16x248x128.size a)
theorem k1_off76_inb : ∀ (v1224 : BitVec 32) (k1_hw38 : k1_chk38 v1224), ∀ a, (k1_off76 v1224) a + S1x248x128.size a ≤ S16x248x128.size a := fun v1224 k1_hw38 => k1_hw38

def k1_off77 (i : grid1.Coords) : Fin 1 → Nat :=
  let arg0 : BitVec 32 := BitVec.ofNat 32 (i 0).val
  let c64_i32_568 : BitVec 32 := 64#32
  let v1254 : BitVec 32 := Scalar.muli arg0 c64_i32_568
  let c38_i32 : BitVec 32 := 38#32
  let v1255 : BitVec 32 := Scalar.addi v1254 c38_i32
  let v1256 : Index := Scalar.indexCast v1255
  ![v1256.toNat]
def k1_off78 (v1257 : BitVec 32) : Fin 3 → Nat :=
  let v1260 : Index := Scalar.indexCast v1257
  let c0_571 : Index := 0#32
  let c0_572 : Index := 0#32
  ![v1260.toNat, 0, 0]

def k1_chk39 (v1257 : BitVec 32) : Prop :=
  (∀ a, (k1_off78 v1257) a + S1x248x128.size a ≤ S16x248x128.size a)
theorem k1_off78_inb : ∀ (v1257 : BitVec 32) (k1_hw39 : k1_chk39 v1257), ∀ a, (k1_off78 v1257) a + S1x248x128.size a ≤ S16x248x128.size a := fun v1257 k1_hw39 => k1_hw39

def k1_off79 (i : grid1.Coords) : Fin 1 → Nat :=
  let arg0 : BitVec 32 := BitVec.ofNat 32 (i 0).val
  let c64_i32_583 : BitVec 32 := 64#32
  let v1287 : BitVec 32 := Scalar.muli arg0 c64_i32_583
  let c39_i32 : BitVec 32 := 39#32
  let v1288 : BitVec 32 := Scalar.addi v1287 c39_i32
  let v1289 : Index := Scalar.indexCast v1288
  ![v1289.toNat]
def k1_off80 (v1290 : BitVec 32) : Fin 3 → Nat :=
  let v1293 : Index := Scalar.indexCast v1290
  let c0_586 : Index := 0#32
  let c0_587 : Index := 0#32
  ![v1293.toNat, 0, 0]

def k1_chk40 (v1290 : BitVec 32) : Prop :=
  (∀ a, (k1_off80 v1290) a + S1x248x128.size a ≤ S16x248x128.size a)
theorem k1_off80_inb : ∀ (v1290 : BitVec 32) (k1_hw40 : k1_chk40 v1290), ∀ a, (k1_off80 v1290) a + S1x248x128.size a ≤ S16x248x128.size a := fun v1290 k1_hw40 => k1_hw40

def k1_off81 (i : grid1.Coords) : Fin 1 → Nat :=
  let arg0 : BitVec 32 := BitVec.ofNat 32 (i 0).val
  let c64_i32_598 : BitVec 32 := 64#32
  let v1320 : BitVec 32 := Scalar.muli arg0 c64_i32_598
  let c40_i32 : BitVec 32 := 40#32
  let v1321 : BitVec 32 := Scalar.addi v1320 c40_i32
  let v1322 : Index := Scalar.indexCast v1321
  ![v1322.toNat]
def k1_off82 (v1323 : BitVec 32) : Fin 3 → Nat :=
  let v1326 : Index := Scalar.indexCast v1323
  let c0_601 : Index := 0#32
  let c0_602 : Index := 0#32
  ![v1326.toNat, 0, 0]

def k1_chk41 (v1323 : BitVec 32) : Prop :=
  (∀ a, (k1_off82 v1323) a + S1x248x128.size a ≤ S16x248x128.size a)
theorem k1_off82_inb : ∀ (v1323 : BitVec 32) (k1_hw41 : k1_chk41 v1323), ∀ a, (k1_off82 v1323) a + S1x248x128.size a ≤ S16x248x128.size a := fun v1323 k1_hw41 => k1_hw41

def k1_off83 (i : grid1.Coords) : Fin 1 → Nat :=
  let arg0 : BitVec 32 := BitVec.ofNat 32 (i 0).val
  let c64_i32_613 : BitVec 32 := 64#32
  let v1353 : BitVec 32 := Scalar.muli arg0 c64_i32_613
  let c41_i32 : BitVec 32 := 41#32
  let v1354 : BitVec 32 := Scalar.addi v1353 c41_i32
  let v1355 : Index := Scalar.indexCast v1354
  ![v1355.toNat]
def k1_off84 (v1356 : BitVec 32) : Fin 3 → Nat :=
  let v1359 : Index := Scalar.indexCast v1356
  let c0_616 : Index := 0#32
  let c0_617 : Index := 0#32
  ![v1359.toNat, 0, 0]

def k1_chk42 (v1356 : BitVec 32) : Prop :=
  (∀ a, (k1_off84 v1356) a + S1x248x128.size a ≤ S16x248x128.size a)
theorem k1_off84_inb : ∀ (v1356 : BitVec 32) (k1_hw42 : k1_chk42 v1356), ∀ a, (k1_off84 v1356) a + S1x248x128.size a ≤ S16x248x128.size a := fun v1356 k1_hw42 => k1_hw42

def k1_off85 (i : grid1.Coords) : Fin 1 → Nat :=
  let arg0 : BitVec 32 := BitVec.ofNat 32 (i 0).val
  let c64_i32_628 : BitVec 32 := 64#32
  let v1386 : BitVec 32 := Scalar.muli arg0 c64_i32_628
  let c42_i32 : BitVec 32 := 42#32
  let v1387 : BitVec 32 := Scalar.addi v1386 c42_i32
  let v1388 : Index := Scalar.indexCast v1387
  ![v1388.toNat]
def k1_off86 (v1389 : BitVec 32) : Fin 3 → Nat :=
  let v1392 : Index := Scalar.indexCast v1389
  let c0_631 : Index := 0#32
  let c0_632 : Index := 0#32
  ![v1392.toNat, 0, 0]

def k1_chk43 (v1389 : BitVec 32) : Prop :=
  (∀ a, (k1_off86 v1389) a + S1x248x128.size a ≤ S16x248x128.size a)
theorem k1_off86_inb : ∀ (v1389 : BitVec 32) (k1_hw43 : k1_chk43 v1389), ∀ a, (k1_off86 v1389) a + S1x248x128.size a ≤ S16x248x128.size a := fun v1389 k1_hw43 => k1_hw43

def k1_off87 (i : grid1.Coords) : Fin 1 → Nat :=
  let arg0 : BitVec 32 := BitVec.ofNat 32 (i 0).val
  let c64_i32_643 : BitVec 32 := 64#32
  let v1419 : BitVec 32 := Scalar.muli arg0 c64_i32_643
  let c43_i32 : BitVec 32 := 43#32
  let v1420 : BitVec 32 := Scalar.addi v1419 c43_i32
  let v1421 : Index := Scalar.indexCast v1420
  ![v1421.toNat]
def k1_off88 (v1422 : BitVec 32) : Fin 3 → Nat :=
  let v1425 : Index := Scalar.indexCast v1422
  let c0_646 : Index := 0#32
  let c0_647 : Index := 0#32
  ![v1425.toNat, 0, 0]

def k1_chk44 (v1422 : BitVec 32) : Prop :=
  (∀ a, (k1_off88 v1422) a + S1x248x128.size a ≤ S16x248x128.size a)
theorem k1_off88_inb : ∀ (v1422 : BitVec 32) (k1_hw44 : k1_chk44 v1422), ∀ a, (k1_off88 v1422) a + S1x248x128.size a ≤ S16x248x128.size a := fun v1422 k1_hw44 => k1_hw44

def k1_off89 (i : grid1.Coords) : Fin 1 → Nat :=
  let arg0 : BitVec 32 := BitVec.ofNat 32 (i 0).val
  let c64_i32_658 : BitVec 32 := 64#32
  let v1452 : BitVec 32 := Scalar.muli arg0 c64_i32_658
  let c44_i32 : BitVec 32 := 44#32
  let v1453 : BitVec 32 := Scalar.addi v1452 c44_i32
  let v1454 : Index := Scalar.indexCast v1453
  ![v1454.toNat]
def k1_off90 (v1455 : BitVec 32) : Fin 3 → Nat :=
  let v1458 : Index := Scalar.indexCast v1455
  let c0_661 : Index := 0#32
  let c0_662 : Index := 0#32
  ![v1458.toNat, 0, 0]

def k1_chk45 (v1455 : BitVec 32) : Prop :=
  (∀ a, (k1_off90 v1455) a + S1x248x128.size a ≤ S16x248x128.size a)
theorem k1_off90_inb : ∀ (v1455 : BitVec 32) (k1_hw45 : k1_chk45 v1455), ∀ a, (k1_off90 v1455) a + S1x248x128.size a ≤ S16x248x128.size a := fun v1455 k1_hw45 => k1_hw45

def k1_off91 (i : grid1.Coords) : Fin 1 → Nat :=
  let arg0 : BitVec 32 := BitVec.ofNat 32 (i 0).val
  let c64_i32_673 : BitVec 32 := 64#32
  let v1485 : BitVec 32 := Scalar.muli arg0 c64_i32_673
  let c45_i32 : BitVec 32 := 45#32
  let v1486 : BitVec 32 := Scalar.addi v1485 c45_i32
  let v1487 : Index := Scalar.indexCast v1486
  ![v1487.toNat]
def k1_off92 (v1488 : BitVec 32) : Fin 3 → Nat :=
  let v1491 : Index := Scalar.indexCast v1488
  let c0_676 : Index := 0#32
  let c0_677 : Index := 0#32
  ![v1491.toNat, 0, 0]

def k1_chk46 (v1488 : BitVec 32) : Prop :=
  (∀ a, (k1_off92 v1488) a + S1x248x128.size a ≤ S16x248x128.size a)
theorem k1_off92_inb : ∀ (v1488 : BitVec 32) (k1_hw46 : k1_chk46 v1488), ∀ a, (k1_off92 v1488) a + S1x248x128.size a ≤ S16x248x128.size a := fun v1488 k1_hw46 => k1_hw46

def k1_off93 (i : grid1.Coords) : Fin 1 → Nat :=
  let arg0 : BitVec 32 := BitVec.ofNat 32 (i 0).val
  let c64_i32_688 : BitVec 32 := 64#32
  let v1518 : BitVec 32 := Scalar.muli arg0 c64_i32_688
  let c46_i32 : BitVec 32 := 46#32
  let v1519 : BitVec 32 := Scalar.addi v1518 c46_i32
  let v1520 : Index := Scalar.indexCast v1519
  ![v1520.toNat]
def k1_off94 (v1521 : BitVec 32) : Fin 3 → Nat :=
  let v1524 : Index := Scalar.indexCast v1521
  let c0_691 : Index := 0#32
  let c0_692 : Index := 0#32
  ![v1524.toNat, 0, 0]

def k1_chk47 (v1521 : BitVec 32) : Prop :=
  (∀ a, (k1_off94 v1521) a + S1x248x128.size a ≤ S16x248x128.size a)
theorem k1_off94_inb : ∀ (v1521 : BitVec 32) (k1_hw47 : k1_chk47 v1521), ∀ a, (k1_off94 v1521) a + S1x248x128.size a ≤ S16x248x128.size a := fun v1521 k1_hw47 => k1_hw47

def k1_off95 (i : grid1.Coords) : Fin 1 → Nat :=
  let arg0 : BitVec 32 := BitVec.ofNat 32 (i 0).val
  let c64_i32_703 : BitVec 32 := 64#32
  let v1551 : BitVec 32 := Scalar.muli arg0 c64_i32_703
  let c47_i32 : BitVec 32 := 47#32
  let v1552 : BitVec 32 := Scalar.addi v1551 c47_i32
  let v1553 : Index := Scalar.indexCast v1552
  ![v1553.toNat]
def k1_off96 (v1554 : BitVec 32) : Fin 3 → Nat :=
  let v1557 : Index := Scalar.indexCast v1554
  let c0_706 : Index := 0#32
  let c0_707 : Index := 0#32
  ![v1557.toNat, 0, 0]

def k1_chk48 (v1554 : BitVec 32) : Prop :=
  (∀ a, (k1_off96 v1554) a + S1x248x128.size a ≤ S16x248x128.size a)
theorem k1_off96_inb : ∀ (v1554 : BitVec 32) (k1_hw48 : k1_chk48 v1554), ∀ a, (k1_off96 v1554) a + S1x248x128.size a ≤ S16x248x128.size a := fun v1554 k1_hw48 => k1_hw48

def k1_off97 (i : grid1.Coords) : Fin 1 → Nat :=
  let arg0 : BitVec 32 := BitVec.ofNat 32 (i 0).val
  let c64_i32_718 : BitVec 32 := 64#32
  let v1584 : BitVec 32 := Scalar.muli arg0 c64_i32_718
  let c48_i32 : BitVec 32 := 48#32
  let v1585 : BitVec 32 := Scalar.addi v1584 c48_i32
  let v1586 : Index := Scalar.indexCast v1585
  ![v1586.toNat]
def k1_off98 (v1587 : BitVec 32) : Fin 3 → Nat :=
  let v1590 : Index := Scalar.indexCast v1587
  let c0_721 : Index := 0#32
  let c0_722 : Index := 0#32
  ![v1590.toNat, 0, 0]

def k1_chk49 (v1587 : BitVec 32) : Prop :=
  (∀ a, (k1_off98 v1587) a + S1x248x128.size a ≤ S16x248x128.size a)
theorem k1_off98_inb : ∀ (v1587 : BitVec 32) (k1_hw49 : k1_chk49 v1587), ∀ a, (k1_off98 v1587) a + S1x248x128.size a ≤ S16x248x128.size a := fun v1587 k1_hw49 => k1_hw49

def k1_off99 (i : grid1.Coords) : Fin 1 → Nat :=
  let arg0 : BitVec 32 := BitVec.ofNat 32 (i 0).val
  let c64_i32_733 : BitVec 32 := 64#32
  let v1617 : BitVec 32 := Scalar.muli arg0 c64_i32_733
  let c49_i32 : BitVec 32 := 49#32
  let v1618 : BitVec 32 := Scalar.addi v1617 c49_i32
  let v1619 : Index := Scalar.indexCast v1618
  ![v1619.toNat]
def k1_off100 (v1620 : BitVec 32) : Fin 3 → Nat :=
  let v1623 : Index := Scalar.indexCast v1620
  let c0_736 : Index := 0#32
  let c0_737 : Index := 0#32
  ![v1623.toNat, 0, 0]

def k1_chk50 (v1620 : BitVec 32) : Prop :=
  (∀ a, (k1_off100 v1620) a + S1x248x128.size a ≤ S16x248x128.size a)
theorem k1_off100_inb : ∀ (v1620 : BitVec 32) (k1_hw50 : k1_chk50 v1620), ∀ a, (k1_off100 v1620) a + S1x248x128.size a ≤ S16x248x128.size a := fun v1620 k1_hw50 => k1_hw50

def k1_off101 (i : grid1.Coords) : Fin 1 → Nat :=
  let arg0 : BitVec 32 := BitVec.ofNat 32 (i 0).val
  let c64_i32_748 : BitVec 32 := 64#32
  let v1650 : BitVec 32 := Scalar.muli arg0 c64_i32_748
  let c50_i32 : BitVec 32 := 50#32
  let v1651 : BitVec 32 := Scalar.addi v1650 c50_i32
  let v1652 : Index := Scalar.indexCast v1651
  ![v1652.toNat]
def k1_off102 (v1653 : BitVec 32) : Fin 3 → Nat :=
  let v1656 : Index := Scalar.indexCast v1653
  let c0_751 : Index := 0#32
  let c0_752 : Index := 0#32
  ![v1656.toNat, 0, 0]

def k1_chk51 (v1653 : BitVec 32) : Prop :=
  (∀ a, (k1_off102 v1653) a + S1x248x128.size a ≤ S16x248x128.size a)
theorem k1_off102_inb : ∀ (v1653 : BitVec 32) (k1_hw51 : k1_chk51 v1653), ∀ a, (k1_off102 v1653) a + S1x248x128.size a ≤ S16x248x128.size a := fun v1653 k1_hw51 => k1_hw51

def k1_off103 (i : grid1.Coords) : Fin 1 → Nat :=
  let arg0 : BitVec 32 := BitVec.ofNat 32 (i 0).val
  let c64_i32_763 : BitVec 32 := 64#32
  let v1683 : BitVec 32 := Scalar.muli arg0 c64_i32_763
  let c51_i32 : BitVec 32 := 51#32
  let v1684 : BitVec 32 := Scalar.addi v1683 c51_i32
  let v1685 : Index := Scalar.indexCast v1684
  ![v1685.toNat]
def k1_off104 (v1686 : BitVec 32) : Fin 3 → Nat :=
  let v1689 : Index := Scalar.indexCast v1686
  let c0_766 : Index := 0#32
  let c0_767 : Index := 0#32
  ![v1689.toNat, 0, 0]

def k1_chk52 (v1686 : BitVec 32) : Prop :=
  (∀ a, (k1_off104 v1686) a + S1x248x128.size a ≤ S16x248x128.size a)
theorem k1_off104_inb : ∀ (v1686 : BitVec 32) (k1_hw52 : k1_chk52 v1686), ∀ a, (k1_off104 v1686) a + S1x248x128.size a ≤ S16x248x128.size a := fun v1686 k1_hw52 => k1_hw52

def k1_off105 (i : grid1.Coords) : Fin 1 → Nat :=
  let arg0 : BitVec 32 := BitVec.ofNat 32 (i 0).val
  let c64_i32_778 : BitVec 32 := 64#32
  let v1716 : BitVec 32 := Scalar.muli arg0 c64_i32_778
  let c52_i32 : BitVec 32 := 52#32
  let v1717 : BitVec 32 := Scalar.addi v1716 c52_i32
  let v1718 : Index := Scalar.indexCast v1717
  ![v1718.toNat]
def k1_off106 (v1719 : BitVec 32) : Fin 3 → Nat :=
  let v1722 : Index := Scalar.indexCast v1719
  let c0_781 : Index := 0#32
  let c0_782 : Index := 0#32
  ![v1722.toNat, 0, 0]

def k1_chk53 (v1719 : BitVec 32) : Prop :=
  (∀ a, (k1_off106 v1719) a + S1x248x128.size a ≤ S16x248x128.size a)
theorem k1_off106_inb : ∀ (v1719 : BitVec 32) (k1_hw53 : k1_chk53 v1719), ∀ a, (k1_off106 v1719) a + S1x248x128.size a ≤ S16x248x128.size a := fun v1719 k1_hw53 => k1_hw53

def k1_off107 (i : grid1.Coords) : Fin 1 → Nat :=
  let arg0 : BitVec 32 := BitVec.ofNat 32 (i 0).val
  let c64_i32_793 : BitVec 32 := 64#32
  let v1749 : BitVec 32 := Scalar.muli arg0 c64_i32_793
  let c53_i32 : BitVec 32 := 53#32
  let v1750 : BitVec 32 := Scalar.addi v1749 c53_i32
  let v1751 : Index := Scalar.indexCast v1750
  ![v1751.toNat]
def k1_off108 (v1752 : BitVec 32) : Fin 3 → Nat :=
  let v1755 : Index := Scalar.indexCast v1752
  let c0_796 : Index := 0#32
  let c0_797 : Index := 0#32
  ![v1755.toNat, 0, 0]

def k1_chk54 (v1752 : BitVec 32) : Prop :=
  (∀ a, (k1_off108 v1752) a + S1x248x128.size a ≤ S16x248x128.size a)
theorem k1_off108_inb : ∀ (v1752 : BitVec 32) (k1_hw54 : k1_chk54 v1752), ∀ a, (k1_off108 v1752) a + S1x248x128.size a ≤ S16x248x128.size a := fun v1752 k1_hw54 => k1_hw54

def k1_off109 (i : grid1.Coords) : Fin 1 → Nat :=
  let arg0 : BitVec 32 := BitVec.ofNat 32 (i 0).val
  let c64_i32_808 : BitVec 32 := 64#32
  let v1782 : BitVec 32 := Scalar.muli arg0 c64_i32_808
  let c54_i32 : BitVec 32 := 54#32
  let v1783 : BitVec 32 := Scalar.addi v1782 c54_i32
  let v1784 : Index := Scalar.indexCast v1783
  ![v1784.toNat]
def k1_off110 (v1785 : BitVec 32) : Fin 3 → Nat :=
  let v1788 : Index := Scalar.indexCast v1785
  let c0_811 : Index := 0#32
  let c0_812 : Index := 0#32
  ![v1788.toNat, 0, 0]

def k1_chk55 (v1785 : BitVec 32) : Prop :=
  (∀ a, (k1_off110 v1785) a + S1x248x128.size a ≤ S16x248x128.size a)
theorem k1_off110_inb : ∀ (v1785 : BitVec 32) (k1_hw55 : k1_chk55 v1785), ∀ a, (k1_off110 v1785) a + S1x248x128.size a ≤ S16x248x128.size a := fun v1785 k1_hw55 => k1_hw55

def k1_off111 (i : grid1.Coords) : Fin 1 → Nat :=
  let arg0 : BitVec 32 := BitVec.ofNat 32 (i 0).val
  let c64_i32_823 : BitVec 32 := 64#32
  let v1815 : BitVec 32 := Scalar.muli arg0 c64_i32_823
  let c55_i32 : BitVec 32 := 55#32
  let v1816 : BitVec 32 := Scalar.addi v1815 c55_i32
  let v1817 : Index := Scalar.indexCast v1816
  ![v1817.toNat]
def k1_off112 (v1818 : BitVec 32) : Fin 3 → Nat :=
  let v1821 : Index := Scalar.indexCast v1818
  let c0_826 : Index := 0#32
  let c0_827 : Index := 0#32
  ![v1821.toNat, 0, 0]

def k1_chk56 (v1818 : BitVec 32) : Prop :=
  (∀ a, (k1_off112 v1818) a + S1x248x128.size a ≤ S16x248x128.size a)
theorem k1_off112_inb : ∀ (v1818 : BitVec 32) (k1_hw56 : k1_chk56 v1818), ∀ a, (k1_off112 v1818) a + S1x248x128.size a ≤ S16x248x128.size a := fun v1818 k1_hw56 => k1_hw56

def k1_off113 (i : grid1.Coords) : Fin 1 → Nat :=
  let arg0 : BitVec 32 := BitVec.ofNat 32 (i 0).val
  let c64_i32_838 : BitVec 32 := 64#32
  let v1848 : BitVec 32 := Scalar.muli arg0 c64_i32_838
  let c56_i32 : BitVec 32 := 56#32
  let v1849 : BitVec 32 := Scalar.addi v1848 c56_i32
  let v1850 : Index := Scalar.indexCast v1849
  ![v1850.toNat]
def k1_off114 (v1851 : BitVec 32) : Fin 3 → Nat :=
  let v1854 : Index := Scalar.indexCast v1851
  let c0_841 : Index := 0#32
  let c0_842 : Index := 0#32
  ![v1854.toNat, 0, 0]

def k1_chk57 (v1851 : BitVec 32) : Prop :=
  (∀ a, (k1_off114 v1851) a + S1x248x128.size a ≤ S16x248x128.size a)
theorem k1_off114_inb : ∀ (v1851 : BitVec 32) (k1_hw57 : k1_chk57 v1851), ∀ a, (k1_off114 v1851) a + S1x248x128.size a ≤ S16x248x128.size a := fun v1851 k1_hw57 => k1_hw57

def k1_off115 (i : grid1.Coords) : Fin 1 → Nat :=
  let arg0 : BitVec 32 := BitVec.ofNat 32 (i 0).val
  let c64_i32_853 : BitVec 32 := 64#32
  let v1881 : BitVec 32 := Scalar.muli arg0 c64_i32_853
  let c57_i32 : BitVec 32 := 57#32
  let v1882 : BitVec 32 := Scalar.addi v1881 c57_i32
  let v1883 : Index := Scalar.indexCast v1882
  ![v1883.toNat]
def k1_off116 (v1884 : BitVec 32) : Fin 3 → Nat :=
  let v1887 : Index := Scalar.indexCast v1884
  let c0_856 : Index := 0#32
  let c0_857 : Index := 0#32
  ![v1887.toNat, 0, 0]

def k1_chk58 (v1884 : BitVec 32) : Prop :=
  (∀ a, (k1_off116 v1884) a + S1x248x128.size a ≤ S16x248x128.size a)
theorem k1_off116_inb : ∀ (v1884 : BitVec 32) (k1_hw58 : k1_chk58 v1884), ∀ a, (k1_off116 v1884) a + S1x248x128.size a ≤ S16x248x128.size a := fun v1884 k1_hw58 => k1_hw58

def k1_off117 (i : grid1.Coords) : Fin 1 → Nat :=
  let arg0 : BitVec 32 := BitVec.ofNat 32 (i 0).val
  let c64_i32_868 : BitVec 32 := 64#32
  let v1914 : BitVec 32 := Scalar.muli arg0 c64_i32_868
  let c58_i32 : BitVec 32 := 58#32
  let v1915 : BitVec 32 := Scalar.addi v1914 c58_i32
  let v1916 : Index := Scalar.indexCast v1915
  ![v1916.toNat]
def k1_off118 (v1917 : BitVec 32) : Fin 3 → Nat :=
  let v1920 : Index := Scalar.indexCast v1917
  let c0_871 : Index := 0#32
  let c0_872 : Index := 0#32
  ![v1920.toNat, 0, 0]

def k1_chk59 (v1917 : BitVec 32) : Prop :=
  (∀ a, (k1_off118 v1917) a + S1x248x128.size a ≤ S16x248x128.size a)
theorem k1_off118_inb : ∀ (v1917 : BitVec 32) (k1_hw59 : k1_chk59 v1917), ∀ a, (k1_off118 v1917) a + S1x248x128.size a ≤ S16x248x128.size a := fun v1917 k1_hw59 => k1_hw59

def k1_off119 (i : grid1.Coords) : Fin 1 → Nat :=
  let arg0 : BitVec 32 := BitVec.ofNat 32 (i 0).val
  let c64_i32_883 : BitVec 32 := 64#32
  let v1947 : BitVec 32 := Scalar.muli arg0 c64_i32_883
  let c59_i32 : BitVec 32 := 59#32
  let v1948 : BitVec 32 := Scalar.addi v1947 c59_i32
  let v1949 : Index := Scalar.indexCast v1948
  ![v1949.toNat]
def k1_off120 (v1950 : BitVec 32) : Fin 3 → Nat :=
  let v1953 : Index := Scalar.indexCast v1950
  let c0_886 : Index := 0#32
  let c0_887 : Index := 0#32
  ![v1953.toNat, 0, 0]

def k1_chk60 (v1950 : BitVec 32) : Prop :=
  (∀ a, (k1_off120 v1950) a + S1x248x128.size a ≤ S16x248x128.size a)
theorem k1_off120_inb : ∀ (v1950 : BitVec 32) (k1_hw60 : k1_chk60 v1950), ∀ a, (k1_off120 v1950) a + S1x248x128.size a ≤ S16x248x128.size a := fun v1950 k1_hw60 => k1_hw60

def k1_off121 (i : grid1.Coords) : Fin 1 → Nat :=
  let arg0 : BitVec 32 := BitVec.ofNat 32 (i 0).val
  let c64_i32_898 : BitVec 32 := 64#32
  let v1980 : BitVec 32 := Scalar.muli arg0 c64_i32_898
  let c60_i32 : BitVec 32 := 60#32
  let v1981 : BitVec 32 := Scalar.addi v1980 c60_i32
  let v1982 : Index := Scalar.indexCast v1981
  ![v1982.toNat]
def k1_off122 (v1983 : BitVec 32) : Fin 3 → Nat :=
  let v1986 : Index := Scalar.indexCast v1983
  let c0_901 : Index := 0#32
  let c0_902 : Index := 0#32
  ![v1986.toNat, 0, 0]

def k1_chk61 (v1983 : BitVec 32) : Prop :=
  (∀ a, (k1_off122 v1983) a + S1x248x128.size a ≤ S16x248x128.size a)
theorem k1_off122_inb : ∀ (v1983 : BitVec 32) (k1_hw61 : k1_chk61 v1983), ∀ a, (k1_off122 v1983) a + S1x248x128.size a ≤ S16x248x128.size a := fun v1983 k1_hw61 => k1_hw61

def k1_off123 (i : grid1.Coords) : Fin 1 → Nat :=
  let arg0 : BitVec 32 := BitVec.ofNat 32 (i 0).val
  let c64_i32_913 : BitVec 32 := 64#32
  let v2013 : BitVec 32 := Scalar.muli arg0 c64_i32_913
  let c61_i32 : BitVec 32 := 61#32
  let v2014 : BitVec 32 := Scalar.addi v2013 c61_i32
  let v2015 : Index := Scalar.indexCast v2014
  ![v2015.toNat]
def k1_off124 (v2016 : BitVec 32) : Fin 3 → Nat :=
  let v2019 : Index := Scalar.indexCast v2016
  let c0_916 : Index := 0#32
  let c0_917 : Index := 0#32
  ![v2019.toNat, 0, 0]

def k1_chk62 (v2016 : BitVec 32) : Prop :=
  (∀ a, (k1_off124 v2016) a + S1x248x128.size a ≤ S16x248x128.size a)
theorem k1_off124_inb : ∀ (v2016 : BitVec 32) (k1_hw62 : k1_chk62 v2016), ∀ a, (k1_off124 v2016) a + S1x248x128.size a ≤ S16x248x128.size a := fun v2016 k1_hw62 => k1_hw62

def k1_off125 (i : grid1.Coords) : Fin 1 → Nat :=
  let arg0 : BitVec 32 := BitVec.ofNat 32 (i 0).val
  let c64_i32_928 : BitVec 32 := 64#32
  let v2046 : BitVec 32 := Scalar.muli arg0 c64_i32_928
  let c62_i32 : BitVec 32 := 62#32
  let v2047 : BitVec 32 := Scalar.addi v2046 c62_i32
  let v2048 : Index := Scalar.indexCast v2047
  ![v2048.toNat]
def k1_off126 (v2049 : BitVec 32) : Fin 3 → Nat :=
  let v2052 : Index := Scalar.indexCast v2049
  let c0_931 : Index := 0#32
  let c0_932 : Index := 0#32
  ![v2052.toNat, 0, 0]

def k1_chk63 (v2049 : BitVec 32) : Prop :=
  (∀ a, (k1_off126 v2049) a + S1x248x128.size a ≤ S16x248x128.size a)
theorem k1_off126_inb : ∀ (v2049 : BitVec 32) (k1_hw63 : k1_chk63 v2049), ∀ a, (k1_off126 v2049) a + S1x248x128.size a ≤ S16x248x128.size a := fun v2049 k1_hw63 => k1_hw63

def k1_off127 (i : grid1.Coords) : Fin 1 → Nat :=
  let arg0 : BitVec 32 := BitVec.ofNat 32 (i 0).val
  let c64_i32_943 : BitVec 32 := 64#32
  let v2079 : BitVec 32 := Scalar.muli arg0 c64_i32_943
  let c63_i32 : BitVec 32 := 63#32
  let v2080 : BitVec 32 := Scalar.addi v2079 c63_i32
  let v2081 : Index := Scalar.indexCast v2080
  ![v2081.toNat]
def k1_off128 (v2082 : BitVec 32) : Fin 3 → Nat :=
  let v2085 : Index := Scalar.indexCast v2082
  let c0_946 : Index := 0#32
  let c0_947 : Index := 0#32
  ![v2085.toNat, 0, 0]

def k1_chk64 (v2082 : BitVec 32) : Prop :=
  (∀ a, (k1_off128 v2082) a + S1x248x128.size a ≤ S16x248x128.size a)
theorem k1_off128_inb : ∀ (v2082 : BitVec 32) (k1_hw64 : k1_chk64 v2082), ∀ a, (k1_off128 v2082) a + S1x248x128.size a ≤ S16x248x128.size a := fun v2082 k1_hw64 => k1_hw64

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S64x248x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S16x248x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S16x248x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S64x248x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]
-- ==== KernelIdeal.lean ====
variable {F : FTy → Type} [FloatOps F] [Named F]
def κ : String → Option EReal := fun
  | "inv_wm1" => some ((127⁻¹ : ℝ) : EReal)
  | _ => none
-- ==== ReferenceIdeal.lean ====
abbrev S1024x4x62x128 : Shape := ⟨4, ![1024, 4, 62, 128]⟩
abbrev S1024 : Shape := ⟨1, ![1024]⟩
abbrev S_ : Shape := ⟨0, ![]⟩
abbrev S1024x1x1x1 : Shape := ⟨4, ![1024, 1, 1, 1]⟩
abbrev S4x62x128 : Shape := ⟨3, ![4, 62, 128]⟩
abbrev S1x4x62x128 : Shape := ⟨4, ![1, 4, 62, 128]⟩
abbrev S1024x4x62 : Shape := ⟨3, ![1024, 4, 62]⟩
abbrev S1024x4x62x1 : Shape := ⟨4, ![1024, 4, 62, 1]⟩

abbrev nBuf : Space → Nat
  | .hbm => 85
  | .vmem => 0
  | .smem => 0
  | _ => 0

abbrev bufTy : (tb : Table) → Fin (tcTables nBuf tb) → BufTy
  | .hbm, ⟨0, _⟩ => ⟨S1024x4x62x128, .f32⟩
  | .hbm, ⟨1, _⟩ => ⟨S1024, .i32⟩
  | .hbm, ⟨2, _⟩ => ⟨S_, .i32⟩
  | .hbm, ⟨3, _⟩ => ⟨S_, .i32⟩
  | .hbm, ⟨4, _⟩ => ⟨S1024, .i32⟩
  | .hbm, ⟨5, _⟩ => ⟨S_, .i32⟩
  | .hbm, ⟨6, _⟩ => ⟨S_, .i32⟩
  | .hbm, ⟨7, _⟩ => ⟨S1024x4x62x128, .f32⟩
  | .hbm, ⟨8, _⟩ => ⟨S_, .i32⟩
  | .hbm, ⟨9, _⟩ => ⟨S_, .i1⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S1024, .i32⟩
  | .hbm, ⟨14, _⟩ => ⟨S1024, .i1⟩
  | .hbm, ⟨15, _⟩ => ⟨S1024, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i1⟩
  | .hbm, ⟨20, _⟩ => ⟨S_, .i32⟩
  | .hbm, ⟨21, _⟩ => ⟨S_, .i32⟩
  | .hbm, ⟨22, _⟩ => ⟨S_, .f32⟩
  | .hbm, ⟨23, _⟩ => ⟨S1024x1x1x1, .i1⟩
  | .hbm, ⟨24, _⟩ => ⟨S1024x1x1x1, .f32⟩
  | .hbm, ⟨25, _⟩ => ⟨S1024x4x62x128, .f32⟩
  | .hbm, ⟨26, _⟩ => ⟨S1024x4x62x128, .f32⟩
  | .hbm, ⟨27, _⟩ => ⟨S_, .f32⟩
  | .hbm, ⟨28, _⟩ => ⟨S4x62x128, .f32⟩
  | .hbm, ⟨29, _⟩ => ⟨S1x4x62x128, .f32⟩
  | .hbm, ⟨30, _⟩ => ⟨S1x4x62x128, .f32⟩
  | .hbm, ⟨31, _⟩ => ⟨S1x4x62x128, .f32⟩
  | .hbm, ⟨32, _⟩ => ⟨S1024x4x62x128, .f32⟩
  | .hbm, ⟨33, _⟩ => ⟨S1024x4x62x128, .f32⟩
  | .hbm, ⟨34, _⟩ => ⟨S1024x4x62x128, .f32⟩
  | .hbm, ⟨35, _⟩ => ⟨S1024x4x62x128, .f32⟩
  | .hbm, ⟨36, _⟩ => ⟨S1024x4x62x128, .f32⟩
  | .hbm, ⟨37, _⟩ => ⟨S_, .f32⟩
  | .hbm, ⟨38, _⟩ => ⟨S4x62x128, .f32⟩
  | .hbm, ⟨39, _⟩ => ⟨S1x4x62x128, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S1x4x62x128, .f32⟩
  | .hbm, ⟨45, _⟩ => ⟨S1x4x62x128, .f32⟩
  | .hbm, ⟨46, _⟩ => ⟨S1x4x62x128, .f32⟩
  | .hbm, ⟨47, _⟩ => ⟨S_, .f32⟩
  | .hbm, ⟨48, _⟩ => ⟨S1x4x62x128, .f32⟩
  | .hbm, ⟨49, _⟩ => ⟨S1x4x62x128, .f32⟩
  | .hbm, ⟨50, _⟩ => ⟨S1024x4x62x128, .f32⟩
  | .hbm, ⟨51, _⟩ => ⟨S1024x4x62x128, .f32⟩
  | .hbm, ⟨52, _⟩ => ⟨S1024x4x62x128, .f32⟩
  | .hbm, ⟨53, _⟩ => ⟨S1024x4x62x128, .f32⟩
  | .hbm, ⟨54, _⟩ => ⟨S1024x1x1x1, .i1⟩
  | .hbm, ⟨55, _⟩ => ⟨S1024x1x1x1, .i1⟩
  | .hbm, ⟨56, _⟩ => ⟨S1024x4x62x128, .i1⟩
  | .hbm, ⟨57, _⟩ => ⟨S1024x4x62x128, .f32⟩
  | .hbm, ⟨58, _⟩ => ⟨S_, .f32⟩
  | .hbm, ⟨59, _⟩ => ⟨S1024x4x62, .f32⟩
  | .hbm, ⟨60, _⟩ => ⟨S1024x4x62x1, .f32⟩
  | .hbm, ⟨61, _⟩ => ⟨S_, .f32⟩
  | .hbm, ⟨62, _⟩ => ⟨S1024x4x62x1, .f32⟩
  | .hbm, ⟨63, _⟩ => ⟨S1024x4x62x1, .f32⟩
  | .hbm, ⟨64, _⟩ => ⟨S1024x4x62x128, .f32⟩
  | .hbm, ⟨65, _⟩ => ⟨S1024x4x62x128, .f32⟩
  | .hbm, ⟨66, _⟩ => ⟨S1024x4x62x128, .f32⟩
  | .hbm, ⟨67, _⟩ => ⟨S_, .f32⟩
  | .hbm, ⟨68, _⟩ => ⟨S1024x4x62, .f32⟩
  | .hbm, ⟨69, _⟩ => ⟨S1024x4x62x1, .f32⟩
  | .hbm, ⟨70, _⟩ => ⟨S_, .f32⟩
  | .hbm, ⟨71, _⟩ => ⟨S1024x4x62x1, .f32⟩
  | .hbm, ⟨72, _⟩ => ⟨S1024x4x62x1, .f32⟩
  | .hbm, ⟨73, _⟩ => ⟨S1024x4x62x1, .f32⟩
  | .hbm, ⟨74, _⟩ => ⟨S_, .f32⟩
  | .hbm, ⟨75, _⟩ => ⟨S1024x4x62x1, .f32⟩
  | .hbm, ⟨76, _⟩ => ⟨S1024x4x62x1, .f32⟩
  | .hbm, ⟨77, _⟩ => ⟨S1024x4x62x128, .f32⟩
  | .hbm, ⟨78, _⟩ => ⟨S1024x4x62x128, .f32⟩
  | .hbm, ⟨79, _⟩ => ⟨S1024x4x62x128, .f32⟩
  | .hbm, ⟨80, _⟩ => ⟨S1024x4x62x128, .f32⟩
  | .hbm, ⟨81, _⟩ => ⟨S1024x4x62x128, .i1⟩
  | .hbm, ⟨82, _⟩ => ⟨S1024x4x62x128, .f32⟩
  | .hbm, ⟨83, _⟩ => ⟨S_, .i32⟩
  | .hbm, ⟨84, _⟩ => ⟨S_, .i32⟩
  | _, _ => ⟨S1024x4x62x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev main_while0c_c_4 : Ref sig .tc := ⟨.hbm, 8, rfl⟩
abbrev main_while0c_v1 : Ref sig .tc := ⟨.hbm, 9, rfl⟩
abbrev main_while0b_c_4 : Ref sig .tc := ⟨.hbm, 10, rfl⟩
abbrev main_while0b_v1 : Ref sig .tc := ⟨.hbm, 11, rfl⟩
abbrev main_while0b_v2 : Ref sig .tc := ⟨.hbm, 12, rfl⟩
abbrev main_while0b_v3 : Ref sig .tc := ⟨.hbm, 13, rfl⟩
abbrev main_while0b_v4 : Ref sig .tc := ⟨.hbm, 14, rfl⟩
abbrev main_while0b_v5 : Ref sig .tc := ⟨.hbm, 15, rfl⟩
abbrev main_while0b_c_5 : Ref sig .tc := ⟨.hbm, 16, rfl⟩
abbrev main_while0b_v6 : Ref sig .tc := ⟨.hbm, 17, rfl⟩
abbrev main_while0b_c_6 : Ref sig .tc := ⟨.hbm, 18, rfl⟩
abbrev main_while0b_v7 : Ref sig .tc := ⟨.hbm, 19, rfl⟩
abbrev main_while0b_c_7 : Ref sig .tc := ⟨.hbm, 20, rfl⟩
abbrev main_while0b_v8 : Ref sig .tc := ⟨.hbm, 21, rfl⟩
abbrev main_while0b_v9 : Ref sig .tc := ⟨.hbm, 22, rfl⟩
abbrev main_while0b_v10 : Ref sig .tc := ⟨.hbm, 23, rfl⟩
abbrev main_while0b_v11 : Ref sig .tc := ⟨.hbm, 24, rfl⟩
abbrev main_while0b_v12 : Ref sig .tc := ⟨.hbm, 25, rfl⟩
abbrev main_while0b_v13 : Ref sig .tc := ⟨.hbm, 26, rfl⟩
abbrev main_while0b_cst : Ref sig .tc := ⟨.hbm, 27, rfl⟩
abbrev main_while0b_v14 : Ref sig .tc := ⟨.hbm, 28, rfl⟩
abbrev main_while0b_v15 : Ref sig .tc := ⟨.hbm, 29, rfl⟩
abbrev main_while0b_v16 : Ref sig .tc := ⟨.hbm, 30, rfl⟩
abbrev main_while0b_v17 : Ref sig .tc := ⟨.hbm, 31, rfl⟩
abbrev main_while0b_v18 : Ref sig .tc := ⟨.hbm, 32, rfl⟩
abbrev main_while0b_v19 : Ref sig .tc := ⟨.hbm, 33, rfl⟩
abbrev main_while0b_v20 : Ref sig .tc := ⟨.hbm, 34, rfl⟩
abbrev main_while0b_v21 : Ref sig .tc := ⟨.hbm, 35, rfl⟩
abbrev main_while0b_v22 : Ref sig .tc := ⟨.hbm, 36, rfl⟩
abbrev main_while0b_cst_8 : Ref sig .tc := ⟨.hbm, 37, rfl⟩
abbrev main_while0b_v23 : Ref sig .tc := ⟨.hbm, 38, rfl⟩
abbrev main_while0b_v24 : Ref sig .tc := ⟨.hbm, 39, rfl⟩
abbrev main_while0b_cst_9 : Ref sig .tc := ⟨.hbm, 40, rfl⟩
abbrev main_while0b_v25 : Ref sig .tc := ⟨.hbm, 41, rfl⟩
abbrev main_while0b_cst_10 : Ref sig .tc := ⟨.hbm, 42, rfl⟩
abbrev main_while0b_v26 : Ref sig .tc := ⟨.hbm, 43, rfl⟩
abbrev main_while0b_v27 : Ref sig .tc := ⟨.hbm, 44, rfl⟩
abbrev main_while0b_v28 : Ref sig .tc := ⟨.hbm, 45, rfl⟩
abbrev main_while0b_v29 : Ref sig .tc := ⟨.hbm, 46, rfl⟩
abbrev main_while0b_cst_11 : Ref sig .tc := ⟨.hbm, 47, rfl⟩
abbrev main_while0b_v30 : Ref sig .tc := ⟨.hbm, 48, rfl⟩
abbrev main_while0b_v31 : Ref sig .tc := ⟨.hbm, 49, rfl⟩
abbrev main_while0b_v32 : Ref sig .tc := ⟨.hbm, 50, rfl⟩
abbrev main_while0b_v33 : Ref sig .tc := ⟨.hbm, 51, rfl⟩
abbrev main_while0b_v34 : Ref sig .tc := ⟨.hbm, 52, rfl⟩
abbrev main_while0b_v35 : Ref sig .tc := ⟨.hbm, 53, rfl⟩
abbrev main_while0b_v36 : Ref sig .tc := ⟨.hbm, 54, rfl⟩
abbrev main_while0b_v37 : Ref sig .tc := ⟨.hbm, 55, rfl⟩
abbrev main_while0b_call0_v0 : Ref sig .tc := ⟨.hbm, 56, rfl⟩
abbrev main_while0b_v38 : Ref sig .tc := ⟨.hbm, 57, rfl⟩
abbrev main_while0b_cst_12 : Ref sig .tc := ⟨.hbm, 58, rfl⟩
abbrev main_while0b_v39 : Ref sig .tc := ⟨.hbm, 59, rfl⟩
abbrev main_while0b_v40 : Ref sig .tc := ⟨.hbm, 60, rfl⟩
abbrev main_while0b_cst_13 : Ref sig .tc := ⟨.hbm, 61, rfl⟩
abbrev main_while0b_v41 : Ref sig .tc := ⟨.hbm, 62, rfl⟩
abbrev main_while0b_v42 : Ref sig .tc := ⟨.hbm, 63, rfl⟩
abbrev main_while0b_v43 : Ref sig .tc := ⟨.hbm, 64, rfl⟩
abbrev main_while0b_v44 : Ref sig .tc := ⟨.hbm, 65, rfl⟩
abbrev main_while0b_v45 : Ref sig .tc := ⟨.hbm, 66, rfl⟩
abbrev main_while0b_cst_14 : Ref sig .tc := ⟨.hbm, 67, rfl⟩
abbrev main_while0b_v46 : Ref sig .tc := ⟨.hbm, 68, rfl⟩
abbrev main_while0b_v47 : Ref sig .tc := ⟨.hbm, 69, rfl⟩
abbrev main_while0b_cst_15 : Ref sig .tc := ⟨.hbm, 70, rfl⟩
abbrev main_while0b_v48 : Ref sig .tc := ⟨.hbm, 71, rfl⟩
abbrev main_while0b_v49 : Ref sig .tc := ⟨.hbm, 72, rfl⟩
abbrev main_while0b_v50 : Ref sig .tc := ⟨.hbm, 73, rfl⟩
abbrev main_while0b_cst_16 : Ref sig .tc := ⟨.hbm, 74, rfl⟩
abbrev main_while0b_v51 : Ref sig .tc := ⟨.hbm, 75, rfl⟩
abbrev main_while0b_v52 : Ref sig .tc := ⟨.hbm, 76, rfl⟩
abbrev main_while0b_v53 : Ref sig .tc := ⟨.hbm, 77, rfl⟩
abbrev main_while0b_v54 : Ref sig .tc := ⟨.hbm, 78, rfl⟩
abbrev main_while0b_v55 : Ref sig .tc := ⟨.hbm, 79, rfl⟩
abbrev main_while0b_v56 : Ref sig .tc := ⟨.hbm, 80, rfl⟩
abbrev main_while0b_call1_v0 : Ref sig .tc := ⟨.hbm, 81, rfl⟩
abbrev main_while0b_v57 : Ref sig .tc := ⟨.hbm, 82, rfl⟩
abbrev main_while0b_c_17 : Ref sig .tc := ⟨.hbm, 83, rfl⟩
abbrev main_while0b_v58 : Ref sig .tc := ⟨.hbm, 84, rfl⟩

abbrev nD : Nat := 1
abbrev τ : Topo := Topo.v7x

variable {F : FTy → Type} [FloatOps F]

abbrev main_while0_count : Scf.Loop 32 := ⟨0#32, 16#32, 1#32⟩
-- ==== Proof.KernelIdealNormSteps.lean ====
/-
  The normalisation kernel (`cc1__norm_kernel`) handles the 64 recordings of its block one after another, each by the
  same statements at the next row. Here those statements are written once, for row `k` (`normStep`), the body is the
  recursion over the rows (`normFrom`), and `norm_kernel_eq` says that the kernel's own body IS that recursion.
-/
module

public import proofs.«01_k».proof.Proof.Gen.KernelIdeal.Launch
public import proofs.«01_k».proof.Proof.Gen.KernelIdeal.Skeleton

@[expose] public section

set_option maxRecDepth 16384

noncomputable section

namespace Cert.Proof.KernelIdeal

open Cert.KernelIdeal Cert.KernelIdeal.Gen
open Idealize.ShloMosaic Idealize.ShloMosaic.TcCoe
open Idealize.SL Idealize.SL.Sem

variable {F : FTy → Type} [FloatOps F] [Named F]

/-- Where the word of recording `k` of block `i` lies in the table: at `64 * i + k`, computed in 32-bit words. -/
def wordOff (i : grid1.Coords) (k : ℕ) : Fin 1 → Nat :=
  ![(Scalar.indexCast (Scalar.addi (Scalar.muli (BitVec.ofNat 32 (i 0).val) 64#32) (BitVec.ofNat 32 k))).toNat]

/-- The row of the statistics a word names. -/
def statOff (v : BitVec 32) : Fin 3 → Nat := ![(Scalar.indexCast v).toNat, 0, 0]

/-- What the body assumes of a word it has read: the row it names is a row of the statistics. -/
def StatOk (v : BitVec 32) : Prop := ∀ a, statOff v a + S1x248x128.size a ≤ S16x248x128.size a

instance StatOk.dec (v : BitVec 32) : Decidable (StatOk v) := decidable_of_iff' _ (Iff.of_eq (StatOk.eq_1 v))

theorem wordOff_eq (i : grid1.Coords) (k : ℕ) (hk : k < 64) : wordOff i k 0 = 64 * (i 0).val + k := by
  have hi : (i 0).val < 16 := (i 0).isLt
  show ((BitVec.ofNat 32 (i 0).val * 64#32) + BitVec.ofNat 32 k).toNat = _
  rw [BitVec.toNat_add, BitVec.toNat_mul, BitVec.toNat_ofNat, BitVec.toNat_ofNat, BitVec.toNat_ofNat]
  omega

theorem wordOff_inb (i : grid1.Coords) (k : ℕ) (hk : k < 64) : ∀ a, wordOff i k a + S1.size a ≤ S1024.size a := by
  have hi : (i 0).val < 16 := (i 0).isLt
  intro a
  have ha : a = 0 := Subsingleton.elim _ _
  subst ha
  rw [wordOff_eq i k hk]
  show 64 * (i 0).val + k + 1 ≤ 1024
  omega

theorem row_inb (k : ℕ) (hk : k < 64) : ∀ a, (![k, 0, 0] : Fin 3 → Nat) a + S1x248x128.size a ≤ S64x248x128.size a := by
  intro a
  fin_cases a
  · show k + 1 ≤ 64; omega
  · show 0 + 248 ≤ 248; omega
  · show 0 + 128 ≤ 128; omega

/-- The value stored for a recording `x` with the mean `m` and the reciprocal deviation `s` of its subject. -/
def normPay (x m s : Vec F S1x248x128 .f32) : FVec F S1x248x128 .f32 :=
  k1_pay2 x m s

/-- The statements for recording `k` of the block, and then `rest`. -/
def normStep (i : grid1.Coords) (arg1 : Memref sig .tc .smem S1024 .i32) (arg2 : Memref sig .tc .vmem S64x248x128 .f32)
    (arg3 arg4 : Memref sig .tc .vmem S16x248x128 .f32) (arg5 : Memref sig .tc .vmem S64x248x128 .f32)
    (k : ℕ) (hk : k < 64) (rest : Prog (TpuEff nD τ sig (Elt F) Λ₀ .tc) PUnit) :
    Prog (TpuEff nD τ sig (Elt F) Λ₀ .tc) PUnit := do
  let v : Elt F .i32 ← smemLoad arg1 (Rect.unit (s := S1024) (wordOff i k) S1.size (wordOff_inb i k hk)) numel1_S1 rfl
  have hv : StatOk v := (← Prog.lift (TpuEff.assume (StatOk v) (StatOk.dec v))).down
  let x : Vec F S1x248x128 .f32 ← Prog.lift (.load arg2 (Rect.unit (s := S64x248x128) ![k, 0, 0] S1x248x128.size (row_inb k hk)).toLoadRect (View.loadsAt_vmem h_S1x248x128))
  let m : Vec F S1x248x128 .f32 ← Prog.lift (.load arg3 (Rect.unit (s := S16x248x128) (statOff v) S1x248x128.size hv).toLoadRect (View.loadsAt_vmem h_S1x248x128))
  let s : Vec F S1x248x128 .f32 ← Prog.lift (.load arg4 (Rect.unit (s := S16x248x128) (statOff v) S1x248x128.size hv).toLoadRect (View.loadsAt_vmem h_S1x248x128))
  let _ : Vec F S1x248x128 .f32 ← Prog.lift (.load arg5 (Rect.unit (s := S64x248x128) ![k, 0, 0] S1x248x128.size (row_inb k hk)).toLoadRect (View.loadsAt_vmem h_S1x248x128))
  Prog.lift (.store arg5 (Rect.unit (s := S64x248x128) ![k, 0, 0] S1x248x128.size (row_inb k hk)) (normPay x m s) Finset.univ (View.stores_vmem_bits_univ h_S1x248x128 rfl) (.inl rfl))
  rest

/-- The statements for the recordings `k`, `k + 1`, …, `k + n - 1` of the block, in that order. -/
def normFrom (i : grid1.Coords) (arg1 : Memref sig .tc .smem S1024 .i32) (arg2 : Memref sig .tc .vmem S64x248x128 .f32)
    (arg3 arg4 : Memref sig .tc .vmem S16x248x128 .f32) (arg5 : Memref sig .tc .vmem S64x248x128 .f32) :
    (n k : ℕ) → n + k ≤ 64 → Prog (TpuEff nD τ sig (Elt F) Λ₀ .tc) PUnit
  | 0, _, _ => pure ⟨⟩
  | n + 1, k, h => normStep i arg1 arg2 arg3 arg4 arg5 k (by omega) (normFrom i arg1 arg2 arg3 arg4 arg5 n (k + 1) (by omega))

set_option maxHeartbeats 2000000 in
/-- The kernel's body is the 64 recordings' statements in order. -/
theorem norm_kernel_eq (i : grid1.Coords) (arg1 : Memref sig .tc .smem S1024 .i32) (harg1 : arg1.IsWhole)
    (arg2 : Memref sig .tc .vmem S64x248x128 .f32) (harg2 : arg2.IsWhole) (arg3 : Memref sig .tc .vmem S16x248x128 .f32)
    (harg3 : arg3.IsWhole) (arg4 : Memref sig .tc .vmem S16x248x128 .f32) (harg4 : arg4.IsWhole)
    (arg5 : Memref sig .tc .vmem S64x248x128 .f32) (harg5 : arg5.IsWhole) :
    cc1__norm_kernel (F := F) i arg1 harg1 arg2 harg2 arg3 harg3 arg4 harg4 arg5 harg5
      = normFrom i arg1 arg2 arg3 arg4 arg5 64 0 (le_refl _) := by
  chain_rfl

end Cert.Proof.KernelIdeal

end
-- ==== Proof.KernelIdealNormBody.lean ====
/-
  Running the body of the normalisation kernel: from its four inputs and its output buffer held, it runs to its end,
  leaving the inputs as they were and in row `k` of the output the normalised recording `k` (`norm_body`).
-/
module

public import proofs.«01_k».proof.Proof.KernelIdealNormSteps
public import Idealize.ShloMosaic.Lib.Tactic

@[expose] public section

set_option maxRecDepth 16384

noncomputable section

namespace Cert.Proof.KernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-- The resources the proof keeps: one copy of the pipelines' bookkeeping. -/
abbrev UU : Type := UR sig nD τ

local notation "𝕄" => MT nD τ sig Unit (Elt F) ℕ UU ℕ

/-- The contents of memref `M`'s buffer on core `c`; -/
abbrev Bf (c : Dev nD) {sp : Space} {S : Shape} {e : EltTy} (M : Memref sig .tc sp S e) : Type := Buf (Elt F) (M.view.loc (c : Thread nD τ))
/-- and that buffer held whole at `f`. -/
abbrev pt (c : Dev nD) {sp : Space} {S : Shape} {e : EltTy} (M : Memref sig .tc sp S e) (f : Bf (F := F) c M) : sProp 𝕄 :=
  M.view.loc (c : Thread nD τ) ↦{fullShare} f

/-- The table of words, as the body reads it. -/
abbrev tbl : Memref sig .tc .smem S1024 .i32 := Memref.whole main_arg1

/-- The word of recording `k` of block `i`. -/
abbrev wordAt (c : Dev nD) (f1 : Bf (F := F) c tbl) (i : grid1.Coords) (k : ℕ) (hk : k < 64) : BitVec 32 :=
  (tbl.access (Rect.unit (s := S1024) (wordOff i k) S1.size (wordOff_inb i k hk))).read (Elt F) f1 (Shape.Idx.first (numel1_S1.symm ▸ Nat.one_pos))

/-- The value of row `k` of the output. -/
def rowVal (c : Dev nD) (i : grid1.Coords) {arg2 : Memref sig .tc .vmem S64x248x128 .f32}
    {arg3 arg4 : Memref sig .tc .vmem S16x248x128 .f32} (f1 : Bf (F := F) c tbl) (f2 : Bf (F := F) c arg2) (f3 : Bf (F := F) c arg3)
    (f4 : Bf (F := F) c arg4) (k : ℕ) (hk : k < 64) (hv : StatOk (wordAt c f1 i k hk)) : FVec F S1x248x128 .f32 :=
  normPay
    ((arg2.view.readAt (Elt F) (Rect.unit (s := S64x248x128) ![k, 0, 0] S1x248x128.size (row_inb k hk)).toLoadRect f2))
    ((arg3.view.readAt (Elt F) (Rect.unit (s := S16x248x128) (statOff (wordAt c f1 i k hk)) S1x248x128.size hv).toLoadRect f3))
    ((arg4.view.readAt (Elt F) (Rect.unit (s := S16x248x128) (statOff (wordAt c f1 i k hk)) S1x248x128.size hv).toLoadRect f4))

set_option maxHeartbeats 2000000 in
/-- One recording: row `k` of the output gets its value, and the rest of the program goes on. -/
theorem norm_step (c : Dev nD) (i : grid1.Coords) (arg2 : Memref sig .tc .vmem S64x248x128 .f32)
    (arg3 arg4 : Memref sig .tc .vmem S16x248x128 .f32) (arg5 : Memref sig .tc .vmem S64x248x128 .f32)
    (f1 : Bf (F := F) c tbl) (f2 : Bf (F := F) c arg2) (f3 : Bf (F := F) c arg3) (f4 : Bf (F := F) c arg4) (f5 : Bf (F := F) c arg5)
    (k : ℕ) (hk : k < 64) (hv : StatOk (wordAt c f1 i k hk)) (L : List (View.Piece (Elt F) S64x248x128 .f32))
    (rest : Prog (TpuEff nD τ sig (Elt F) Λ₀ .tc) PUnit) (Q : PUnit → sProp 𝕄) :
    iprop(pt c tbl f1 ∗ pt c arg2 f2 ∗ pt c arg3 f3 ∗ pt c arg4 f4 ∗ pt c arg5 (arg5.view.writes (Elt F) f5 L)
      ∗ (iprop(pt c tbl f1 ∗ pt c arg2 f2 ∗ pt c arg3 f3 ∗ pt c arg4 f4
          ∗ pt c arg5 (arg5.view.writes (Elt F) f5 (⟨Rect.unit (s := S64x248x128) ![k, 0, 0] S1x248x128.size (row_inb k hk), rowVal c i f1 f2 f3 f4 k hk hv⟩ :: L)))
        -∗ wp frame (wpE (defs₀ (F := F)) Variants.none c none) Set.univ rest Q))
      ⊢ wp frame (wpE (defs₀ (F := F)) Variants.none c none) Set.univ (normStep i tbl arg2 arg3 arg4 arg5 k hk rest) Q := by
  iintro ⟨H1, H2, H3, H4, H5, Hk⟩
  unfold normStep
  sl_exec
  iapply (wp_assume _ _ _ _ hv)
  sl_exec
  iapply Hk
  isplitl [H1]; · iexact H1
  isplitl [H2]; · iexact H2
  isplitl [H3]; · iexact H3
  isplitl [H4]; · iexact H4
  iexact H5

/-- The rows written by the recordings `k`, …, `k + n - 1`, the newest first, over the rows `L` written before. -/
def rowsFrom (c : Dev nD) (i : grid1.Coords) {arg2 : Memref sig .tc .vmem S64x248x128 .f32}
    {arg3 arg4 : Memref sig .tc .vmem S16x248x128 .f32} (f1 : Bf (F := F) c tbl) (f2 : Bf (F := F) c arg2) (f3 : Bf (F := F) c arg3)
    (f4 : Bf (F := F) c arg4) (hv : ∀ k hk, StatOk (wordAt c f1 i k hk)) :
    (n k : ℕ) → n + k ≤ 64 → List (View.Piece (Elt F) S64x248x128 .f32) → List (View.Piece (Elt F) S64x248x128 .f32)
  | 0, _, _, L => L
  | n + 1, k, h, L => rowsFrom c i f1 f2 f3 f4 hv n (k + 1) (by omega)
      (⟨Rect.unit (s := S64x248x128) ![k, 0, 0] S1x248x128.size (row_inb k (by omega)), rowVal c i f1 f2 f3 f4 k (by omega) (hv k (by omega))⟩ :: L)

/-- The recordings `k`, …, `k + n - 1` in order. -/
theorem norm_from (c : Dev nD) (i : grid1.Coords) (arg2 : Memref sig .tc .vmem S64x248x128 .f32)
    (arg3 arg4 : Memref sig .tc .vmem S16x248x128 .f32) (arg5 : Memref sig .tc .vmem S64x248x128 .f32)
    (f1 : Bf (F := F) c tbl) (f2 : Bf (F := F) c arg2) (f3 : Bf (F := F) c arg3) (f4 : Bf (F := F) c arg4) (f5 : Bf (F := F) c arg5)
    (hv : ∀ k hk, StatOk (wordAt c f1 i k hk)) (Q : PUnit → sProp 𝕄) (n : ℕ) :
    ∀ (k : ℕ) (hk : n + k ≤ 64) (L : List (View.Piece (Elt F) S64x248x128 .f32)),
    iprop(pt c tbl f1 ∗ pt c arg2 f2 ∗ pt c arg3 f3 ∗ pt c arg4 f4 ∗ pt c arg5 (arg5.view.writes (Elt F) f5 L)
      ∗ (iprop(pt c tbl f1 ∗ pt c arg2 f2 ∗ pt c arg3 f3 ∗ pt c arg4 f4
          ∗ pt c arg5 (arg5.view.writes (Elt F) f5 (rowsFrom c i f1 f2 f3 f4 hv n k hk L))) -∗ Q ⟨⟩))
      ⊢ wp frame (wpE (defs₀ (F := F)) Variants.none c none) Set.univ (normFrom i tbl arg2 arg3 arg4 arg5 n k hk) Q := by
  induction n with
  | zero =>
    intro k hk L
    iintro ⟨H1, H2, H3, H4, H5, Hk⟩
    unfold normFrom rowsFrom
    sl_exec
    sl_step
    iapply Hk
    isplitl [H1]; · iexact H1
    isplitl [H2]; · iexact H2
    isplitl [H3]; · iexact H3
    isplitl [H4]; · iexact H4
    iexact H5
  | succ n ih =>
    intro k hk L
    iintro ⟨H1, H2, H3, H4, H5, Hk⟩
    unfold normFrom rowsFrom
    iapply (norm_step c i arg2 arg3 arg4 arg5 f1 f2 f3 f4 f5 k _ (hv k _) L _ Q)
    isplitl [H1]; · iexact H1
    isplitl [H2]; · iexact H2
    isplitl [H3]; · iexact H3
    isplitl [H4]; · iexact H4
    isplitl [H5]; · iexact H5
    iintro ⟨H1, H2, H3, H4, H5⟩
    iapply (ih (k + 1) _ _)
    isplitl [H1]; · iexact H1
    isplitl [H2]; · iexact H2
    isplitl [H3]; · iexact H3
    isplitl [H4]; · iexact H4
    isplitl [H5]; · iexact H5
    iexact Hk

/-- A written row is one of the old ones or the row of one of the recordings. -/
theorem mem_rowsFrom (c : Dev nD) (i : grid1.Coords) {arg2 : Memref sig .tc .vmem S64x248x128 .f32}
    {arg3 arg4 : Memref sig .tc .vmem S16x248x128 .f32} (f1 : Bf (F := F) c tbl) (f2 : Bf (F := F) c arg2) (f3 : Bf (F := F) c arg3)
    (f4 : Bf (F := F) c arg4) (hv : ∀ k hk, StatOk (wordAt c f1 i k hk)) (p : View.Piece (Elt F) S64x248x128 .f32) (n : ℕ) :
    ∀ (k : ℕ) (hk : n + k ≤ 64) (L : List (View.Piece (Elt F) S64x248x128 .f32)),
      p ∈ rowsFrom c i f1 f2 f3 f4 hv n k hk L ↔ p ∈ L ∨ ∃ (r : ℕ) (hr : r < 64), k ≤ r ∧ r < n + k ∧
        p = ⟨Rect.unit (s := S64x248x128) ![r, 0, 0] S1x248x128.size (row_inb r hr), rowVal c i f1 f2 f3 f4 r hr (hv r hr)⟩ := by
  induction n with
  | zero =>
    intro k hk L
    constructor
    · exact fun h => .inl h
    · rintro (h | ⟨r, hr, h1, h2, -⟩)
      · exact h
      · omega
  | succ n ih =>
    intro k hk L
    unfold rowsFrom
    rw [ih, List.mem_cons]
    constructor
    · rintro ((h | h) | ⟨r, hr, h1, h2, h⟩)
      · exact .inr ⟨k, by omega, le_refl _, by omega, h⟩
      · exact .inl h
      · exact .inr ⟨r, hr, by omega, by omega, h⟩
    · rintro (h | ⟨r, hr, h1, h2, h⟩)
      · exact .inl (.inr h)
      · rcases Nat.eq_or_lt_of_le h1 with rfl | h1
        · exact .inl (.inl h)
        · exact .inr ⟨r, hr, by omega, by omega, h⟩

/-- Index `(0, e, w)` of a single row, for index `(k, e, w)` of a block. -/
def inRow (j : S64x248x128.Idx) : S1x248x128.Idx := fun a => match a with
  | ⟨0, _⟩ => (⟨0, Nat.one_pos⟩ : Fin 1)
  | ⟨1, _⟩ => (j 1 : Fin 248)
  | ⟨2, _⟩ => (j 2 : Fin 128)

/-- What the body leaves in its output: in row `k` the normalised recording `k`. -/
def normOut (c : Dev nD) (i : grid1.Coords) {arg2 : Memref sig .tc .vmem S64x248x128 .f32}
    {arg3 arg4 : Memref sig .tc .vmem S16x248x128 .f32} (f1 : Bf (F := F) c tbl) (f2 : Bf (F := F) c arg2) (f3 : Bf (F := F) c arg3)
    (f4 : Bf (F := F) c arg4) (hv : ∀ k hk, StatOk (wordAt c f1 i k hk)) : S64x248x128.Idx → Elt F .f32 :=
  fun j => rowVal c i f1 f2 f3 f4 (j 0).val (j 0).isLt (hv _ _) (inRow j)

theorem normOut_at (c : Dev nD) (i : grid1.Coords) {arg2 : Memref sig .tc .vmem S64x248x128 .f32}
    {arg3 arg4 : Memref sig .tc .vmem S16x248x128 .f32} (f1 : Bf (F := F) c tbl) (f2 : Bf (F := F) c arg2) (f3 : Bf (F := F) c arg3)
    (f4 : Bf (F := F) c arg4) (hv : ∀ k hk, StatOk (wordAt c f1 i k hk)) (j : S64x248x128.Idx) (r : ℕ) (hr : r < 64)
    (h : (j 0).val = r) : normOut c i f1 f2 f3 f4 hv j = rowVal c i f1 f2 f3 f4 r hr (hv r hr) (inRow j) := by
  subst h
  rfl

/-- After all 64 recordings the output reads as `normOut`, whatever it held before. -/
theorem read_rows (c : Dev nD) (i : grid1.Coords) {arg2 : Memref sig .tc .vmem S64x248x128 .f32}
    {arg3 arg4 : Memref sig .tc .vmem S16x248x128 .f32} (f1 : Bf (F := F) c tbl) (f2 : Bf (F := F) c arg2) (f3 : Bf (F := F) c arg3)
    (f4 : Bf (F := F) c arg4) (hv : ∀ k hk, StatOk (wordAt c f1 i k hk)) (arg5 : Memref sig .tc .vmem S64x248x128 .f32)
    (f5 : Bf (F := F) c arg5) :
    arg5.view.read (Elt F) (arg5.view.writes (Elt F) f5 (rowsFrom c i f1 f2 f3 f4 hv 64 0 (le_refl _) []))
      = normOut c i f1 f2 f3 f4 hv := by
  funext y
  refine View.read_writes_apply_of_pieces _ _ _ _ ?_ y ?_
  · intro p hp x
    rcases (mem_rowsFrom c i f1 f2 f3 f4 hv p 64 0 _ _).mp hp with h | ⟨r, hr, -, -, rfl⟩
    · exact absurd h List.not_mem_nil
    · have hx : (x 0).val = 0 := Nat.lt_one_iff.mp (x 0).isLt
      have h0 : ((Rect.unit (s := S64x248x128) ![r, 0, 0] S1x248x128.size (row_inb r hr)).emb x 0).val = r := by
        show r + 1 * (x 0).val = r
        omega
      have hrow : inRow ((Rect.unit (s := S64x248x128) ![r, 0, 0] S1x248x128.size (row_inb r hr)).emb x) = x := by
        funext a
        apply Fin.ext
        fin_cases a
        · exact hx.symm
        · show 0 + 1 * (x 1).val = (x 1).val; omega
        · show 0 + 1 * (x 2).val = (x 2).val; omega
      rw [normOut_at c i f1 f2 f3 f4 hv _ r hr h0, hrow]
  · refine ⟨_, (mem_rowsFrom c i f1 f2 f3 f4 hv _ 64 0 _ _).mpr (.inr ⟨(y 0).val, (y 0).isLt, Nat.zero_le _, (y 0).isLt, rfl⟩), ?_⟩
    rw [Rect.mem_set_unit]
    intro a
    fin_cases a
    · exact ⟨le_refl _, Nat.lt_succ_self _⟩
    · exact ⟨Nat.zero_le _, (y 1).isLt.trans_eq (Nat.zero_add _).symm⟩
    · exact ⟨Nat.zero_le _, (y 2).isLt.trans_eq (Nat.zero_add _).symm⟩

set_option maxHeartbeats 2000000 in
/-- The kernel's body, from its inputs and its output held: it ends with the inputs as they were and the output reading
    as `normOut`. -/
theorem norm_body (c : Dev nD) (i : grid1.Coords) (arg2 : Memref sig .tc .vmem S64x248x128 .f32) (h2 : arg2.IsWhole)
    (arg3 arg4 : Memref sig .tc .vmem S16x248x128 .f32) (h3 : arg3.IsWhole) (h4 : arg4.IsWhole)
    (arg5 : Memref sig .tc .vmem S64x248x128 .f32) (h5 : arg5.IsWhole) (h1 : tbl.IsWhole)
    (f1 : Bf (F := F) c tbl) (f2 : Bf (F := F) c arg2) (f3 : Bf (F := F) c arg3) (f4 : Bf (F := F) c arg4) (f5 : Bf (F := F) c arg5)
    (hv : ∀ k hk, StatOk (wordAt c f1 i k hk)) (Q : PUnit → sProp 𝕄) :
    iprop(pt c tbl f1 ∗ pt c arg2 f2 ∗ pt c arg3 f3 ∗ pt c arg4 f4 ∗ pt c arg5 f5
      ∗ (iprop(pt c tbl f1 ∗ pt c arg2 f2 ∗ pt c arg3 f3 ∗ pt c arg4 f4
          ∗ pt c arg5 (arg5.view.writes (Elt F) f5 (rowsFrom c i f1 f2 f3 f4 hv 64 0 (le_refl _) []))) -∗ Q ⟨⟩))
      ⊢ wp frame (wpE (defs₀ (F := F)) Variants.none c none) Set.univ
          (cc1__norm_kernel i tbl h1 arg2 h2 arg3 h3 arg4 h4 arg5 h5) Q := by
  rw [norm_kernel_eq]
  exact norm_from c i arg2 arg3 arg4 arg5 f1 f2 f3 f4 f5 hv Q 64 0 (le_refl _) []

end Cert.Proof.KernelIdeal

end
-- ==== Proof.KernelIdealStatsBody.lean ====
/-
  Running the body of the statistics kernel at a grid point. At the first point it stores the block's sums in its three
  scratch buffers, at the later ones it adds the block's sums to them (`stats_first`, `stats_later`); at the last point
  it also stores the mean and the reciprocal deviation in its two outputs (`stats_last`).
-/
module

public import proofs.«01_k».proof.Proof.KernelIdealNormBody
public import Idealize.ShloMosaic.Lib.Pipeline.Value

@[expose] public section

set_option maxRecDepth 16384

noncomputable section

namespace Cert.Proof.KernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

/-- The body's test for the first point; -/
theorem condFirst_iff (i : grid0.Coords) :
    Scalar.cmpi .ne (Scalar.extui (Scalar.cmpi .eq (BitVec.ofNat 32 (i 0).val) 0#32) : BitVec 32) 0#32 = 1#1 ↔ (i 0).val = 0 :=
  (by decide : ∀ n : Fin 16, Scalar.cmpi .ne (Scalar.extui (Scalar.cmpi .eq (BitVec.ofNat 32 n.val) 0#32) : BitVec 32) 0#32 = 1#1 ↔ n.val = 0) (i 0)

/-- for a later one; -/
theorem condLater_iff (i : grid0.Coords) :
    Scalar.cmpi .ne (Scalar.extui (Scalar.cmpi .sgt (BitVec.ofNat 32 (i 0).val) 0#32) : BitVec 32) 0#32 = 1#1 ↔ (i 0).val ≠ 0 :=
  (by decide : ∀ n : Fin 16, Scalar.cmpi .ne (Scalar.extui (Scalar.cmpi .sgt (BitVec.ofNat 32 n.val) 0#32) : BitVec 32) 0#32 = 1#1 ↔ n.val ≠ 0) (i 0)

/-- for the last one. -/
theorem cond5_iff (i : grid0.Coords) : k0_cond5 i = 1#1 ↔ (i 0).val = 15 :=
  (by decide : ∀ n : Fin 16, Scalar.cmpi .ne (Scalar.extui (Scalar.cmpi .eq (BitVec.ofNat 32 n.val) 15#32) : BitVec 32) 0#32 = 1#1 ↔ n.val = 15) (i 0)

/-- The three scratch buffers: the sums, the sums of squares and the counts. -/
abbrev sumM : Memref sig .tc .vmem S16x31744 .f32 := Memref.whole cc0_scratch0
abbrev sqM : Memref sig .tc .vmem S16x31744 .f32 := Memref.whole cc0_scratch1
abbrev cntM : Memref sig .tc .vmem S16x64 .f32 := Memref.whole cc0_scratch2

/-- The words of block `i` as the body loads them, -/
abbrev subRow (c : Dev nD) (i : grid0.Coords) {arg1 : Memref sig .tc .vmem S16x64 .i32} (f1 : Bf (F := F) c arg1) : Vec F S1x64 .i32 :=
  arg1.view.readAt (Elt F) (Rect.unit (s := S16x64) (k0_off1 i) S1x64.size (k0_off1_inb i)).toLoadRect f1
/-- and its recordings. -/
abbrev recBlk (c : Dev nD) {arg2 : Memref sig .tc .vmem S64x248x128 .f32} (f2 : Bf (F := F) c arg2) : Vec F S64x248x128 .f32 :=
  arg2.view.readAt (Elt F) (Rect.unit (s := S64x248x128) ![0, 0, 0] S64x248x128.size inb_S64x248x128_S64x248x128_0_0_0).toLoadRect f2

abbrev rWide : Rect S16x31744 := Rect.unit (s := S16x31744) ![0, 0] S16x31744.size inb_S16x31744_S16x31744_0_0
abbrev rCnt : Rect S16x64 := Rect.unit (s := S16x64) ![0, 0] S16x64.size inb_S16x64_S16x64_0_0
abbrev rOut : Rect S16x248x128 := Rect.unit (s := S16x248x128) ![0, 0, 0] S16x248x128.size inb_S16x248x128_S16x248x128_0_0_0

theorem zero2 : (![0, 0] : Fin 2 → Nat) = fun _ => 0 := by decide
theorem zero3 : (![0, 0, 0] : Fin 3 → Nat) = fun _ => 0 := by decide

/-- What a store over the whole of a buffer leaves in it, -/
theorem whole_writes (b : Ref sig .tc) {off : Fin b.ty.shape.rank → Nat} (h : off = fun _ => 0)
    (inb : ∀ a, off a + b.ty.shape.size a ≤ b.ty.shape.size a) (f w : b.ty.Contents (Elt F))
    (L : List (View.Piece (Elt F) b.ty.shape b.ty.elt)) :
    (Memref.whole b : Memref sig _ _ _ _).view.writes (Elt F) f (⟨Rect.unit off b.ty.shape.size inb, w⟩ :: L) = w :=
  Memref.write_access_unit_zero_univ (Elt F) b h inb _ w

/-- and what a load over the whole of the scratch buffers reads. -/
theorem sum_ld (f : Vec F S16x31744 .f32) : sumM.view.readAt (Elt F) rWide.toLoadRect f = f :=
  Memref.readAt_unit_zero (Elt F) cc0_scratch0 zero2 _ f
theorem sq_ld (f : Vec F S16x31744 .f32) : sqM.view.readAt (Elt F) rWide.toLoadRect f = f :=
  Memref.readAt_unit_zero (Elt F) cc0_scratch1 zero2 _ f
theorem cnt_ld (f : Vec F S16x64 .f32) : cntM.view.readAt (Elt F) rCnt.toLoadRect f = f :=
  Memref.readAt_unit_zero (Elt F) cc0_scratch2 zero2 _ f
theorem sum_st (f w : Vec F S16x31744 .f32) : sumM.view.writes (Elt F) f [⟨rWide, w⟩] = w :=
  whole_writes cc0_scratch0 zero2 _ f w []
theorem sq_st (f w : Vec F S16x31744 .f32) : sqM.view.writes (Elt F) f [⟨rWide, w⟩] = w :=
  whole_writes cc0_scratch1 zero2 _ f w []
theorem cnt_st (f w : Vec F S16x64 .f32) : cntM.view.writes (Elt F) f [⟨rCnt, w⟩] = w :=
  whole_writes cc0_scratch2 zero2 _ f w []

set_option maxHeartbeats 2000000 in
/-- The first point: the scratch buffers are stored, the outputs untouched. -/
theorem stats_first (c : Dev nD) (i : grid0.Coords) (hi : (i 0).val = 0) (arg1 : Memref sig .tc .vmem S16x64 .i32) (h1 : arg1.IsWhole)
    (arg2 : Memref sig .tc .vmem S64x248x128 .f32) (h2 : arg2.IsWhole)
    (arg3 arg4 : Memref sig .tc .vmem S16x248x128 .f32) (h3 : arg3.IsWhole) (h4 : arg4.IsWhole)
    (h5 : sumM.IsWhole) (h6 : sqM.IsWhole) (h7 : cntM.IsWhole)
    (f1 : Bf (F := F) c arg1) (f2 : Bf (F := F) c arg2)
    (f5 f6 : Vec F S16x31744 .f32) (f7 : Vec F S16x64 .f32) (Q : PUnit → sProp 𝕄) :
    iprop(pt c arg1 f1 ∗ pt c arg2 f2 ∗ pt c sumM f5 ∗ pt c sqM f6 ∗ pt c cntM f7
      ∗ (iprop(pt c arg1 f1 ∗ pt c arg2 f2 ∗ pt c sumM (k0_pay5 (subRow c i f1) (recBlk c f2))
          ∗ pt c sqM (k0_pay6 (subRow c i f1) (recBlk c f2)) ∗ pt c cntM (k0_pay9 (subRow c i f1))) -∗ Q ⟨⟩))
      ⊢ wp frame (wpE (defs₀ (F := F)) Variants.none c none) Set.univ
          (cc0__stats_kernel i arg1 h1 arg2 h2 arg3 h3 arg4 h4 sumM h5 sqM h6 cntM h7) Q := by
  rw [cc0__stats_kernel_eq_skeleton]
  have c1 := (condFirst_iff i).mpr hi
  have c2 := mt (condLater_iff i).mp (not_not.mpr hi)
  have c5 : ¬ k0_cond5 i = 1#1 := fun h => by have := (cond5_iff i).mp h; omega
  rw [← sum_st f5 (k0_pay5 _ _), ← sq_st f6 (k0_pay6 _ _), ← cnt_st f7 (k0_pay9 _)]
  iintro ⟨H1, H2, H5, H6, H7, Hk⟩
  unfold cc0__stats_kernel_skel
  sl_exec
  sl_step
  iapply Hk
  isplitl [H1]; · iexact H1
  isplitl [H2]; · iexact H2
  isplitl [H5]; · iexact H5
  isplitl [H6]; · iexact H6
  iexact H7

set_option maxHeartbeats 2000000 in
/-- A point between: the block's sums are added to the scratch buffers, the outputs untouched. -/
theorem stats_later (c : Dev nD) (i : grid0.Coords) (hi : (i 0).val ≠ 0) (hl : (i 0).val ≠ 15) (arg1 : Memref sig .tc .vmem S16x64 .i32) (h1 : arg1.IsWhole)
    (arg2 : Memref sig .tc .vmem S64x248x128 .f32) (h2 : arg2.IsWhole)
    (arg3 arg4 : Memref sig .tc .vmem S16x248x128 .f32) (h3 : arg3.IsWhole) (h4 : arg4.IsWhole)
    (h5 : sumM.IsWhole) (h6 : sqM.IsWhole) (h7 : cntM.IsWhole)
    (f1 : Bf (F := F) c arg1) (f2 : Bf (F := F) c arg2)
    (f5 f6 : Vec F S16x31744 .f32) (f7 : Vec F S16x64 .f32) (Q : PUnit → sProp 𝕄) :
    iprop(pt c arg1 f1 ∗ pt c arg2 f2 ∗ pt c sumM f5 ∗ pt c sqM f6 ∗ pt c cntM f7
      ∗ (iprop(pt c arg1 f1 ∗ pt c arg2 f2 ∗ pt c sumM (k0_pay7 (subRow c i f1) (recBlk c f2) f5)
          ∗ pt c sqM (k0_pay8 (subRow c i f1) (recBlk c f2) f6) ∗ pt c cntM (k0_pay10 (subRow c i f1) f7)) -∗ Q ⟨⟩))
      ⊢ wp frame (wpE (defs₀ (F := F)) Variants.none c none) Set.univ
          (cc0__stats_kernel i arg1 h1 arg2 h2 arg3 h3 arg4 h4 sumM h5 sqM h6 cntM h7) Q := by
  rw [cc0__stats_kernel_eq_skeleton]
  have c1 := mt (condFirst_iff i).mp hi
  have c2 := (condLater_iff i).mpr hi
  have c5 : ¬ k0_cond5 i = 1#1 := fun h => hl ((cond5_iff i).mp h)
  have E5 : sumM.view.writes (Elt F) f5 [⟨rWide, k0_pay7 (subRow c i f1) (recBlk c f2) (sumM.view.readAt (Elt F) rWide.toLoadRect f5)⟩]
      = k0_pay7 (subRow c i f1) (recBlk c f2) f5 := (sum_st _ _).trans (by rw [sum_ld])
  have E6 : sqM.view.writes (Elt F) f6 [⟨rWide, k0_pay8 (subRow c i f1) (recBlk c f2) (sqM.view.readAt (Elt F) rWide.toLoadRect f6)⟩]
      = k0_pay8 (subRow c i f1) (recBlk c f2) f6 := (sq_st _ _).trans (by rw [sq_ld])
  have E7 : cntM.view.writes (Elt F) f7 [⟨rCnt, k0_pay10 (subRow c i f1) (cntM.view.readAt (Elt F) rCnt.toLoadRect f7)⟩]
      = k0_pay10 (subRow c i f1) f7 := (cnt_st _ _).trans (by rw [cnt_ld])
  rw [← E5, ← E6, ← E7]
  iintro ⟨H1, H2, H5, H6, H7, Hk⟩
  unfold cc0__stats_kernel_skel
  sl_exec
  sl_step
  iapply Hk
  isplitl [H1]; · iexact H1
  isplitl [H2]; · iexact H2
  isplitl [H5]; · iexact H5
  isplitl [H6]; · iexact H6
  iexact H7

set_option maxHeartbeats 2000000 in
/-- The last point's run: what it leaves in the outputs and the scratch buffers, with the run itself. -/
def lastRun (c : Dev nD) (i : grid0.Coords) (hl : (i 0).val = 15) (arg1 : Memref sig .tc .vmem S16x64 .i32) (h1 : arg1.IsWhole)
    (arg2 : Memref sig .tc .vmem S64x248x128 .f32) (h2 : arg2.IsWhole)
    (arg3 arg4 : Memref sig .tc .vmem S16x248x128 .f32) (h3 : arg3.IsWhole) (h4 : arg4.IsWhole)
    (h5 : sumM.IsWhole) (h6 : sqM.IsWhole) (h7 : cntM.IsWhole)
    (f1 : Bf (F := F) c arg1) (f2 : Bf (F := F) c arg2)
    (f3 : Bf (F := F) c arg3) (f4 : Bf (F := F) c arg4)
    (f5 f6 : Vec F S16x31744 .f32) (f7 : Vec F S16x64 .f32) :
    { W : Bf (F := F) c arg3 × Bf (F := F) c arg4 × Bf (F := F) c sumM × Bf (F := F) c sqM × Bf (F := F) c cntM //
      ∀ Q : PUnit → sProp 𝕄,
      iprop(pt c arg1 f1 ∗ pt c arg2 f2 ∗ pt c arg3 f3 ∗ pt c arg4 f4 ∗ pt c sumM f5 ∗ pt c sqM f6 ∗ pt c cntM f7
        ∗ (iprop(pt c arg1 f1 ∗ pt c arg2 f2 ∗ pt c arg3 W.1 ∗ pt c arg4 W.2.1 ∗ pt c sumM W.2.2.1 ∗ pt c sqM W.2.2.2.1
            ∗ pt c cntM W.2.2.2.2) -∗ Q ⟨⟩))
        ⊢ wp frame (wpE (defs₀ (F := F)) Variants.none c none) Set.univ
            (cc0__stats_kernel i arg1 h1 arg2 h2 arg3 h3 arg4 h4 sumM h5 sqM h6 cntM h7) Q } := by
  refine ⟨⟨?_, ?_, ?_, ?_, ?_⟩, fun Q => ?run⟩
  case run =>
    rw [cc0__stats_kernel_eq_skeleton]
    have hi : (i 0).val ≠ 0 := by omega
    have c1 := mt (condFirst_iff i).mp hi
    have c2 := (condLater_iff i).mpr hi
    have c5 := (cond5_iff i).mpr hl
    iintro ⟨H1, H2, H3, H4, H5, H6, H7, Hk⟩
    unfold cc0__stats_kernel_skel
    sl_exec
    sl_step
    iapply Hk
    isplitl [H1]; · iexact H1
    isplitl [H2]; · iexact H2
    isplitl [H3]; · iexact H3
    isplitl [H4]; · iexact H4
    isplitl [H5]; · iexact H5
    isplitl [H6]; · iexact H6
    iexact H7

/-- What the last point's run leaves, in the payloads' terms. -/
theorem lastRun_eq (c : Dev nD) (i : grid0.Coords) (hl : (i 0).val = 15) (arg1 : Memref sig .tc .vmem S16x64 .i32) (h1 : arg1.IsWhole)
    (arg2 : Memref sig .tc .vmem S64x248x128 .f32) (h2 : arg2.IsWhole)
    (arg3 arg4 : Memref sig .tc .vmem S16x248x128 .f32) (h3 : arg3.IsWhole) (h4 : arg4.IsWhole)
    (h5 : sumM.IsWhole) (h6 : sqM.IsWhole) (h7 : cntM.IsWhole)
    (f1 : Bf (F := F) c arg1) (f2 : Bf (F := F) c arg2)
    (f3 : Bf (F := F) c arg3) (f4 : Bf (F := F) c arg4)
    (f5 f6 : Vec F S16x31744 .f32) (f7 : Vec F S16x64 .f32) :
    (lastRun c i hl arg1 h1 arg2 h2 arg3 arg4 h3 h4 h5 h6 h7 f1 f2 f3 f4 f5 f6 f7).1
      = (arg3.view.writes (Elt F) f3 [⟨rOut, k0_pay13 (k0_pay10 (subRow c i f1) f7) (k0_pay7 (subRow c i f1) (recBlk c f2) f5)⟩],
         arg4.view.writes (Elt F) f4 [⟨rOut, k0_pay14 (k0_pay10 (subRow c i f1) f7)
              (k0_pay7 (subRow c i f1) (recBlk c f2) f5) (k0_pay8 (subRow c i f1) (recBlk c f2) f6)⟩],
         k0_pay7 (subRow c i f1) (recBlk c f2) f5, k0_pay8 (subRow c i f1) (recBlk c f2) f6, k0_pay10 (subRow c i f1) f7) := by
  have E5 : sumM.view.writes (Elt F) f5 [⟨rWide, k0_pay7 (subRow c i f1) (recBlk c f2) (sumM.view.readAt (Elt F) rWide.toLoadRect f5)⟩]
      = k0_pay7 (subRow c i f1) (recBlk c f2) f5 := (sum_st _ _).trans (by rw [sum_ld])
  have E6 : sqM.view.writes (Elt F) f6 [⟨rWide, k0_pay8 (subRow c i f1) (recBlk c f2) (sqM.view.readAt (Elt F) rWide.toLoadRect f6)⟩]
      = k0_pay8 (subRow c i f1) (recBlk c f2) f6 := (sq_st _ _).trans (by rw [sq_ld])
  have E7 : cntM.view.writes (Elt F) f7 [⟨rCnt, k0_pay10 (subRow c i f1) (cntM.view.readAt (Elt F) rCnt.toLoadRect f7)⟩]
      = k0_pay10 (subRow c i f1) f7 := (cnt_st _ _).trans (by rw [cnt_ld])
  have Q7 : lastRun.sl.v29 c i arg1 f1 f7 = k0_pay10 (subRow c i f1) f7 := by
    unfold lastRun.sl.v29 lastRun.sl.H7_1
    refine (View.readCov_cons_toLoadRect _ _ _ _).trans ?_
    rw [cnt_ld]
  have Q5 : lastRun.sl.v34 c i arg1 arg2 f1 f2 f5 = k0_pay7 (subRow c i f1) (recBlk c f2) f5 := by
    unfold lastRun.sl.v34 lastRun.sl.H5_1
    refine (View.readCov_cons_toLoadRect _ _ _ _).trans ?_
    rw [sum_ld]
  have Q6 : lastRun.sl.v37 c i arg1 arg2 f1 f2 f6 = k0_pay8 (subRow c i f1) (recBlk c f2) f6 := by
    unfold lastRun.sl.v37 lastRun.sl.H6_1
    refine (View.readCov_cons_toLoadRect _ _ _ _).trans ?_
    rw [sq_ld]
  unfold lastRun
  dsimp only
  rw [Q7, Q5, Q6]
  unfold lastRun.sl.H5_1 lastRun.sl.H6_1 lastRun.sl.H7_1
  simp only [Prod.mk.injEq]
  refine ⟨trivial, trivial, ?_, ?_, ?_⟩
  · refine (sum_st f5 _).trans ?_
    rw [sum_ld]
  · refine (sq_st f6 _).trans ?_
    rw [sq_ld]
  · refine (cnt_st f7 _).trans ?_
    rw [cnt_ld]

/-- The last point: the block's sums are added to the scratch buffers, and the outputs stored. -/
theorem stats_last (c : Dev nD) (i : grid0.Coords) (hl : (i 0).val = 15) (arg1 : Memref sig .tc .vmem S16x64 .i32) (h1 : arg1.IsWhole)
    (arg2 : Memref sig .tc .vmem S64x248x128 .f32) (h2 : arg2.IsWhole)
    (arg3 arg4 : Memref sig .tc .vmem S16x248x128 .f32) (h3 : arg3.IsWhole) (h4 : arg4.IsWhole)
    (h5 : sumM.IsWhole) (h6 : sqM.IsWhole) (h7 : cntM.IsWhole)
    (f1 : Bf (F := F) c arg1) (f2 : Bf (F := F) c arg2)
    (f3 : Bf (F := F) c arg3) (f4 : Bf (F := F) c arg4)
    (f5 f6 : Vec F S16x31744 .f32) (f7 : Vec F S16x64 .f32) (Q : PUnit → sProp 𝕄) :
    iprop(pt c arg1 f1 ∗ pt c arg2 f2 ∗ pt c arg3 f3 ∗ pt c arg4 f4 ∗ pt c sumM f5 ∗ pt c sqM f6 ∗ pt c cntM f7
      ∗ (iprop(pt c arg1 f1 ∗ pt c arg2 f2
          ∗ pt c arg3 (arg3.view.writes (Elt F) f3 [⟨rOut, k0_pay13 (k0_pay10 (subRow c i f1) f7) (k0_pay7 (subRow c i f1) (recBlk c f2) f5)⟩])
          ∗ pt c arg4 (arg4.view.writes (Elt F) f4 [⟨rOut, k0_pay14 (k0_pay10 (subRow c i f1) f7)
              (k0_pay7 (subRow c i f1) (recBlk c f2) f5) (k0_pay8 (subRow c i f1) (recBlk c f2) f6)⟩])
          ∗ pt c sumM (k0_pay7 (subRow c i f1) (recBlk c f2) f5)
          ∗ pt c sqM (k0_pay8 (subRow c i f1) (recBlk c f2) f6) ∗ pt c cntM (k0_pay10 (subRow c i f1) f7)) -∗ Q ⟨⟩))
      ⊢ wp frame (wpE (defs₀ (F := F)) Variants.none c none) Set.univ
          (cc0__stats_kernel i arg1 h1 arg2 h2 arg3 h3 arg4 h4 sumM h5 sqM h6 cntM h7) Q := by
  have e := lastRun_eq c i hl arg1 h1 arg2 h2 arg3 arg4 h3 h4 h5 h6 h7 f1 f2 f3 f4 f5 f6 f7
  generalize lastRun c i hl arg1 h1 arg2 h2 arg3 arg4 h3 h4 h5 h6 h7 f1 f2 f3 f4 f5 f6 f7 = R at e
  obtain ⟨⟨w3, w4, w5, w6, w7⟩, hrun⟩ := R
  have hrun' := hrun Q
  simp only [Prod.mk.injEq] at e hrun'
  rw [← e.1, ← e.2.1, ← e.2.2.1, ← e.2.2.2.1, ← e.2.2.2.2]
  exact hrun'

end Cert.Proof.KernelIdeal

end
-- ==== Proof.KernelIdealStatsRegion.lean ====
/-
  The statistics kernel over its grid. The three scratch buffers after each point are a recursion on the point
  (`sumAt`, `sqAt`, `cntAt`); the proof data of the pipeline carries them from point to point (`dat0`), and the body
  keeps to it at every point (`body_obligation0`).
-/
module

public import proofs.«01_k».proof.Proof.KernelIdealStatsBody
public import proofs.«01_k».proof.Proof.Gen.KernelIdeal.Launch
public import proofs.«01_k».proof.Proof.Gen.KernelIdeal.Points
public import Idealize.ShloMosaic.Lib.Pipeline.Frame
public import Idealize.ShloMosaic.Lib.Pipeline.FrameBody
public import Idealize.ShloMosaic.Lib.Pipeline.RegionArrays

@[expose] public section

set_option maxRecDepth 16384

noncomputable section

namespace Cert.Proof.KernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

/-- A whole memref owned at contents `X` is its buffer held at some contents that read `X`. -/
theorem owns_pt (c : Dev nD) {sp : Space} {S : Shape} {e : EltTy} {M : Memref sig .tc sp S e} (h : M.IsWhole) (X : S.Idx → Elt F e) :
    (owns (c : Thread nD τ) M fullShare X : sProp 𝕄)
      = iprop(∃ f : Bf (F := F) c M, ⌜M.view.read (Elt F) f = X⌝ ∗ pt c M f) := by
  unfold owns pt; rw [h.set_eq_univ]

/-- A load depends on the contents only through what the view reads. -/
theorem readAt_of_read {sp : Space} {S : Shape} {e : EltTy} {M : Memref sig .tc sp S e} (r : Rect S)
    (c : Dev nD) (f : Bf (F := F) c M) (X : S.Idx → Elt F e) (h : M.view.read (Elt F) f = X) :
    M.view.readAt (Elt F) r.toLoadRect f = View.ld X r := by
  subst h; rfl

/-- What a store over all of a buffer leaves reads as the stored value. -/
theorem store_read_off {sp : Space} {S : Shape} {e : EltTy} {M : Memref sig .tc sp S e} (c : Dev nD) (f : Bf (F := F) c M) (v : S.Idx → Elt F e)
    (off : Fin S.rank → Nat) (h : off = fun _ => 0) (inb : ∀ a, off a + S.size a ≤ S.size a) :
    M.view.read (Elt F) (M.view.writes (Elt F) f [⟨Rect.unit off S.size inb, v⟩]) = v := by
  subst h; exact View.read_writes_whole _ _ _
theorem store_read {sp : Space} {M : Memref sig .tc sp S16x248x128 .f32} (c : Dev nD) (f : Bf (F := F) c M) (v : Vec F S16x248x128 .f32) :
    M.view.read (Elt F) (M.view.writes (Elt F) f [⟨rOut, v⟩]) = v :=
  store_read_off (S := S16x248x128) c f v _ zero3 _

variable (V : (c : Dev nD) → (b : Ref sig .tc) → Buf (Elt F) ((c : Thread nD τ).loc b))

/-- The point with number `n`, counted round the grid. -/
def gridPt (n : Nat) : Fin cfg0.N := ⟨n % 16, lt_of_lt_of_eq (Nat.mod_lt _ (by decide)) N_0.symm⟩

theorem gridPt_val (t : Fin cfg0.N) : gridPt t.val = t :=
  Fin.ext (Nat.mod_eq_of_lt (lt_of_lt_of_eq t.isLt N_0))

/-- All the subject words, in blocks, as point `t` stages them. -/
def allWords (c : Dev nD) (t : Fin cfg0.N) : Vec F S16x64 .i32 := (win0_0.blk t).view.read (Elt F) (V c main_v2)

/-- The subject words of the recordings of block `t`, -/
def wordsOf (c : Dev nD) (t : Fin cfg0.N) : Vec F S1x64 .i32 :=
  View.ld (allWords V c t) (Rect.unit (s := S16x64) (k0_off1 (grid0.coords t)) S1x64.size (k0_off1_inb (grid0.coords t)))
/-- and the recordings. -/
def recsOf (c : Dev nD) (t : Fin cfg0.N) : Vec F S64x248x128 .f32 := (win0_1.blk t).view.read (Elt F) (V c main_v1)

/-- The sums after point `n`, -/
def sumAt (c : Dev nD) : Nat → Vec F S16x31744 .f32
  | 0 => k0_pay5 (wordsOf V c (gridPt 0)) (recsOf V c (gridPt 0))
  | n + 1 => k0_pay7 (wordsOf V c (gridPt (n + 1))) (recsOf V c (gridPt (n + 1))) (sumAt c n)
/-- the sums of squares, -/
def sqAt (c : Dev nD) : Nat → Vec F S16x31744 .f32
  | 0 => k0_pay6 (wordsOf V c (gridPt 0)) (recsOf V c (gridPt 0))
  | n + 1 => k0_pay8 (wordsOf V c (gridPt (n + 1))) (recsOf V c (gridPt (n + 1))) (sqAt c n)
/-- and the counts. -/
def cntAt (c : Dev nD) : Nat → Vec F S16x64 .f32
  | 0 => k0_pay9 (wordsOf V c (gridPt 0))
  | n + 1 => k0_pay10 (wordsOf V c (gridPt (n + 1))) (cntAt c n)

/-- The mean the last point stores, -/
def meanOut (c : Dev nD) : Vec F S16x248x128 .f32 := k0_pay13 (cntAt V c 15) (sumAt V c 15)
/-- and the reciprocal deviation. -/
def recipOut (c : Dev nD) : Vec F S16x248x128 .f32 := k0_pay14 (cntAt V c 15) (sumAt V c 15) (sqAt V c 15)

/-- A buffer held at some contents. -/
def anyBuf (c : Dev nD) (b : Ref sig .tc) : sProp 𝕄 :=
  iprop(∃ f : Buf (Elt F) ((c : Thread nD τ).loc b), ((c : Thread nD τ).loc b) ↦{fullShare} f)

/-- The scoped buffers this kernel neither stages nor uses. -/
def others0 (c : Dev nD) : sProp 𝕄 :=
  iprop(anyBuf (F := F) c cc1_stg0_0 ∗ anyBuf (F := F) c cc1_stg0_1 ∗ anyBuf (F := F) c cc1_stg1_0 ∗ anyBuf (F := F) c cc1_stg2_0
    ∗ anyBuf (F := F) c cc1_stg3_0 ∗ anyBuf (F := F) c cc1_stg3_1)

/-- The invariant before point `n`: the scratch buffers as the points before left them. -/
def inv0 (c : Dev nD) : Nat → sProp 𝕄
  | 0 => iprop(anyBuf (F := F) c cc0_scratch0 ∗ anyBuf (F := F) c cc0_scratch1 ∗ anyBuf (F := F) c cc0_scratch2 ∗ others0 (F := F) c)
  | n + 1 => iprop(pt c sumM (sumAt V c n) ∗ pt c sqM (sqAt V c n) ∗ pt c cntM (cntAt V c n) ∗ others0 (F := F) c)

theorem scopedRest0_inv (c : Dev nD) :
    (Pipeline.scopedRest (Ix := Unit) (Name := ℕ) (U := UU) (Lvl := ℕ) (Val := Elt F) spec0 c : sProp 𝕄) = inv0 V c 0 := by
  rw [scopedRest0_eq]; rfl

/-- The proof data of the statistics kernel's pipeline. -/
def dat0 (c : Dev nD) : Dat τ (Elt F) Unit ℕ UU ℕ cfg0 c where
  A w := V c (Pipeline.arrRef spec0 w)
  after w t := match w with
    | ⟨0, _⟩ => allWords V c t
    | ⟨1, _⟩ => recsOf V c t
    | ⟨2, _⟩ => meanOut V c
    | ⟨3, _⟩ => recipOut V c
  Φ t := inv0 V c t.val
  q _ := fullShare
  owed _ := 0

/-- At every point the body finds the block of an input window in its staging buffer. -/
theorem before0_0 (c : Dev nD) (t : Fin cfg0.N) (d) : (dat0 V c).before 0 t d = allWords V c t :=
  ((dat0 V c).before_in_eq_fetched 0 rfl (fun _ => rfl) (fun _ _ _ => rfl) (fun _ => rfl) t d).trans rfl
theorem before0_1 (c : Dev nD) (t : Fin cfg0.N) (d) : (dat0 V c).before 1 t d = recsOf V c t :=
  ((dat0 V c).before_in_eq_fetched 1 rfl (fun _ => rfl) (fun _ _ _ => rfl) (fun _ => rfl) t d).trans rfl

/-- The grid coordinate of a point is its number. -/
theorem coord0 (t : Fin cfg0.N) : ((grid0.coords t) 0).val = t.val :=
  (by decide +kernel : ∀ t : Fin grid0.N, ((grid0.coords t) 0).val = t.val) t

/-- Point 0: from scratch buffers at anything, the first block's sums. -/
theorem point_first (c : Dev nD) (t : Fin cfg0.N) (h : t.val = 0) (O B2 B3 : sProp 𝕄) :
    iprop(inv0 V c t.val ∗ O ∗ owns (c : Thread nD τ) (st0_0 t) fullShare (allWords V c t)
        ∗ owns (c : Thread nD τ) (st0_1 t) fullShare (recsOf V c t) ∗ B2 ∗ B3)
      ⊢ wp frame (wpE (defs₀ (F := F)) Variants.none c none) Set.univ (bodyAt0 t) fun _ =>
        iprop(inv0 V c (t.val + 1) ∗ O ∗ owns (c : Thread nD τ) (st0_0 t) fullShare (allWords V c t)
          ∗ owns (c : Thread nD τ) (st0_1 t) fullShare (recsOf V c t) ∗ B2 ∗ B3) := by
  obtain rfl : t = gridPt 0 := by rw [← gridPt_val t, h]
  rw [owns_pt c (hstage0_0 _), owns_pt c (hstage0_1 _), h]
  unfold inv0 anyBuf
  iintro ⟨⟨⟨%f5, H5⟩, ⟨%f6, H6⟩, ⟨%f7, H7⟩, Hr⟩, HO, ⟨%f1, %e1, H1⟩, ⟨%f2, %e2, H2⟩, HB2, HB3⟩
  have w1 : subRow c (grid0.coords (gridPt 0)) f1 = wordsOf V c (gridPt 0) := readAt_of_read _ c f1 _ e1
  have w2 : recBlk c f2 = recsOf V c (gridPt 0) := (readAt_of_read _ c f2 _ e2).trans (View.ld_unit_zero zero3 _ _)
  have run := stats_first c (grid0.coords (gridPt 0)) ((coord0 _).trans h) (st0_0 (gridPt 0)) (hstage0_0 ((cfg0.slots (gridPt 0) 0).cast nbuf0_0)) (st0_1 (gridPt 0)) (hstage0_1 ((cfg0.slots (gridPt 0) 1).cast nbuf0_1))
    (st0_2 (gridPt 0)) (st0_3 (gridPt 0)) (hstage0_2 ((cfg0.slots (gridPt 0) 2).cast nbuf0_2)) (hstage0_3 ((cfg0.slots (gridPt 0) 3).cast nbuf0_3)) (Memref.isWhole_whole _) (Memref.isWhole_whole _) (Memref.isWhole_whole _)
    f1 f2 f5 f6 f7
  rw [w1, w2] at run
  iapply (run _)
  isplitl [H1]; · iexact H1
  isplitl [H2]; · iexact H2
  isplitl [H5]; · iexact H5
  isplitl [H6]; · iexact H6
  isplitl [H7]; · iexact H7
  iintro ⟨H1, H2, H5, H6, H7⟩
  isplitl [H5 H6 H7 Hr]
  · isplitl [H5]; · iexact H5
    isplitl [H6]; · iexact H6
    isplitl [H7]; · iexact H7
    iexact Hr
  isplitl [HO]; · iexact HO
  isplitl [H1]
  · iexists f1; isplitr; · ipureintro; exact e1
    iexact H1
  isplitl [H2]
  · iexists f2; isplitr; · ipureintro; exact e2
    iexact H2
  isplitl [HB2]; · iexact HB2
  iexact HB3

/-- A point between: the block's sums are added. -/
theorem point_later (c : Dev nD) (t : Fin cfg0.N) (n : Nat) (h : t.val = n + 1) (hl : t.val ≠ 15) (O B2 B3 : sProp 𝕄) :
    iprop(inv0 V c t.val ∗ O ∗ owns (c : Thread nD τ) (st0_0 t) fullShare (allWords V c t)
        ∗ owns (c : Thread nD τ) (st0_1 t) fullShare (recsOf V c t) ∗ B2 ∗ B3)
      ⊢ wp frame (wpE (defs₀ (F := F)) Variants.none c none) Set.univ (bodyAt0 t) fun _ =>
        iprop(inv0 V c (t.val + 1) ∗ O ∗ owns (c : Thread nD τ) (st0_0 t) fullShare (allWords V c t)
          ∗ owns (c : Thread nD τ) (st0_1 t) fullShare (recsOf V c t) ∗ B2 ∗ B3) := by
  obtain rfl : t = gridPt (n + 1) := by rw [← gridPt_val t, h]
  rw [owns_pt c (hstage0_0 _), owns_pt c (hstage0_1 _), h]
  unfold inv0
  iintro ⟨⟨H5, H6, H7, Hr⟩, HO, ⟨%f1, %e1, H1⟩, ⟨%f2, %e2, H2⟩, HB2, HB3⟩
  have w1 : subRow c (grid0.coords (gridPt (n + 1))) f1 = wordsOf V c (gridPt (n + 1)) := readAt_of_read _ c f1 _ e1
  have w2 : recBlk c f2 = recsOf V c (gridPt (n + 1)) := (readAt_of_read _ c f2 _ e2).trans (View.ld_unit_zero zero3 _ _)
  have run := stats_later c (grid0.coords (gridPt (n + 1))) (by rw [coord0, h]; omega) (by rw [coord0]; exact hl)
    (st0_0 (gridPt (n + 1))) (hstage0_0 ((cfg0.slots (gridPt (n + 1)) 0).cast nbuf0_0)) (st0_1 (gridPt (n + 1))) (hstage0_1 ((cfg0.slots (gridPt (n + 1)) 1).cast nbuf0_1))
    (st0_2 (gridPt (n + 1))) (st0_3 (gridPt (n + 1))) (hstage0_2 ((cfg0.slots (gridPt (n + 1)) 2).cast nbuf0_2)) (hstage0_3 ((cfg0.slots (gridPt (n + 1)) 3).cast nbuf0_3)) (Memref.isWhole_whole _) (Memref.isWhole_whole _) (Memref.isWhole_whole _)
    f1 f2 (sumAt V c n) (sqAt V c n) (cntAt V c n)
  rw [w1, w2] at run
  iapply (run _)
  isplitl [H1]; · iexact H1
  isplitl [H2]; · iexact H2
  isplitl [H5]; · iexact H5
  isplitl [H6]; · iexact H6
  isplitl [H7]; · iexact H7
  iintro ⟨H1, H2, H5, H6, H7⟩
  isplitl [H5 H6 H7 Hr]
  · isplitl [H5]; · iexact H5
    isplitl [H6]; · iexact H6
    isplitl [H7]; · iexact H7
    iexact Hr
  isplitl [HO]; · iexact HO
  isplitl [H1]
  · iexists f1; isplitr; · ipureintro; exact e1
    iexact H1
  isplitl [H2]
  · iexists f2; isplitr; · ipureintro; exact e2
    iexact H2
  isplitl [HB2]; · iexact HB2
  iexact HB3

/-- The last point: the block's sums are added and the outputs stored. -/
theorem point_last (c : Dev nD) (t : Fin cfg0.N) (h : t.val = 15) (O : sProp 𝕄) (X2 X3 : Vec F S16x248x128 .f32) :
    iprop(inv0 V c t.val ∗ O ∗ owns (c : Thread nD τ) (st0_0 t) fullShare (allWords V c t)
        ∗ owns (c : Thread nD τ) (st0_1 t) fullShare (recsOf V c t)
        ∗ owns (c : Thread nD τ) (st0_2 t) fullShare X2 ∗ owns (c : Thread nD τ) (st0_3 t) fullShare X3)
      ⊢ wp frame (wpE (defs₀ (F := F)) Variants.none c none) Set.univ (bodyAt0 t) fun _ =>
        iprop(inv0 V c (t.val + 1) ∗ O ∗ owns (c : Thread nD τ) (st0_0 t) fullShare (allWords V c t)
          ∗ owns (c : Thread nD τ) (st0_1 t) fullShare (recsOf V c t)
          ∗ owns (c : Thread nD τ) (st0_2 t) fullShare (meanOut V c) ∗ owns (c : Thread nD τ) (st0_3 t) fullShare (recipOut V c)) := by
  obtain rfl : t = gridPt (14 + 1) := by rw [← gridPt_val t, h]
  rw [owns_pt c (hstage0_0 _), owns_pt c (hstage0_1 _), owns_pt c (hstage0_2 _), owns_pt c (hstage0_3 _),
    owns_pt c (hstage0_2 _), owns_pt c (hstage0_3 _), show (gridPt (14 + 1)).val = 14 + 1 from h]
  unfold inv0
  iintro ⟨⟨H5, H6, H7, Hr⟩, HO, ⟨%f1, %e1, H1⟩, ⟨%f2, %e2, H2⟩, ⟨%f3, -, H3⟩, ⟨%f4, -, H4⟩⟩
  have w1 : subRow c (grid0.coords (gridPt (14 + 1))) f1 = wordsOf V c (gridPt (14 + 1)) := readAt_of_read _ c f1 _ e1
  have w2 : recBlk c f2 = recsOf V c (gridPt (14 + 1)) := (readAt_of_read _ c f2 _ e2).trans (View.ld_unit_zero zero3 _ _)
  have run := stats_last c (grid0.coords (gridPt (14 + 1))) ((coord0 _).trans h)
    (st0_0 (gridPt (14 + 1))) (hstage0_0 ((cfg0.slots (gridPt (14 + 1)) 0).cast nbuf0_0)) (st0_1 (gridPt (14 + 1))) (hstage0_1 ((cfg0.slots (gridPt (14 + 1)) 1).cast nbuf0_1))
    (st0_2 (gridPt (14 + 1))) (st0_3 (gridPt (14 + 1))) (hstage0_2 ((cfg0.slots (gridPt (14 + 1)) 2).cast nbuf0_2)) (hstage0_3 ((cfg0.slots (gridPt (14 + 1)) 3).cast nbuf0_3)) (Memref.isWhole_whole _) (Memref.isWhole_whole _) (Memref.isWhole_whole _)
    f1 f2 f3 f4 (sumAt V c 14) (sqAt V c 14) (cntAt V c 14)
  rw [w1, w2] at run
  iapply (run _)
  isplitl [H1]; · iexact H1
  isplitl [H2]; · iexact H2
  isplitl [H3]; · iexact H3
  isplitl [H4]; · iexact H4
  isplitl [H5]; · iexact H5
  isplitl [H6]; · iexact H6
  isplitl [H7]; · iexact H7
  iintro ⟨H1, H2, H3, H4, H5, H6, H7⟩
  isplitl [H5 H6 H7 Hr]
  · isplitl [H5]; · iexact H5
    isplitl [H6]; · iexact H6
    isplitl [H7]; · iexact H7
    iexact Hr
  isplitl [HO]; · iexact HO
  isplitl [H1]
  · iexists f1; isplitr; · ipureintro; exact e1
    iexact H1
  isplitl [H2]
  · iexists f2; isplitr; · ipureintro; exact e2
    iexact H2
  isplitl [H3]
  · iexists _; isplitr; swap; (· iexact H3); ipureintro; exact store_read _ _ _
  iexists _; isplitr; swap; (· iexact H4); ipureintro; exact store_read _ _ _

/-- The outputs are stored, and written back, at the last point only. -/
theorem idle_flush (t : Fin cfg0.N) (h : t.val ≠ 15) :
    k0_cond5 (grid0.coords t) ≠ 1#1 ∧ (cfg0.win 2).flush t = false ∧ (cfg0.win 3).flush t = false := by
  have hN : t.val < 16 := lt_of_lt_of_eq t.isLt N_0
  refine ⟨fun h' => h ((coord0 t).symm.trans ((cond5_iff _).mp h')), ?_, ?_⟩
  · exact Bool.eq_false_iff.mpr fun h' => h (by have := (flush0_2 t).mp h'; omega)
  · exact Bool.eq_false_iff.mpr fun h' => h (by have := (flush0_3 t).mp h'; omega)

/-- The body keeps to the proof data at every point. -/
theorem body_obligation0 (c : Dev nD) : BodyObligation (dat0 V c) (defs₀ (F := F)) Variants.none () Set.univ := fun t => by
  have hN : t.val < 16 := lt_of_lt_of_eq t.isLt N_0
  rw [bigSep_W0, bigSep_W0, show (dat0 V c).Φ t.castSucc = inv0 V c t.val from rfl, show (dat0 V c).Φ t.succ = inv0 V c (t.val + 1) from rfl]
  by_cases hl : t.val = 15
  · have i2 : cfg0.idle 2 (cfg0.grid.coords t) = false := by
      show (!(k0_cond5 (grid0.coords t) == 1#1)) = false
      rw [(cond5_iff (grid0.coords t)).mpr ((coord0 t).trans hl)]; rfl
    rw [i2]
    dsimp only
    simp only [before0_0, before0_1]
    iintro ⟨HΦ, HO, ⟨%d0, H0⟩, ⟨%d1, H1⟩, ⟨%d2, H2⟩, ⟨%d3, H3⟩⟩
    iapply (point_last V c t hl ((dat0 V c).owesAt () t.castSucc) _ _)
    isplitl [HΦ]; · iexact HΦ
    isplitl [HO]; · iexact HO
    isplitl [H0]; · iexact H0
    isplitl [H1]; · iexact H1
    isplitl [H2]; · iexact H2
    iexact H3
  · obtain ⟨hc, f2, f3⟩ := idle_flush t hl
    have i2 : cfg0.idle 2 (cfg0.grid.coords t) = true := by
      show (!(k0_cond5 (grid0.coords t) == 1#1)) = true
      rw [beq_eq_false_iff_ne.mpr hc]; rfl
    rw [i2]
    dsimp only
    rw [f2, f3]
    dsimp only
    simp only [before0_0, before0_1]
    iintro ⟨HΦ, HO, ⟨%d0, H0⟩, ⟨%d1, H1⟩, H2, H3⟩
    by_cases h0 : t.val = 0
    · iapply (point_first V c t h0 ((dat0 V c).owesAt () t.castSucc) _ _)
      isplitl [HΦ]; · iexact HΦ
      isplitl [HO]; · iexact HO
      isplitl [H0]; · iexact H0
      isplitl [H1]; · iexact H1
      isplitl [H2]; · iexact H2
      iexact H3
    · iapply (point_later V c t (t.val - 1) (by omega) hl ((dat0 V c).owesAt () t.castSucc) _ _)
      isplitl [HΦ]; · iexact HΦ
      isplitl [HO]; · iexact HO
      isplitl [H0]; · iexact H0
      isplitl [H1]; · iexact H1
      isplitl [H2]; · iexact H2
      iexact H3

end Cert.Proof.KernelIdeal

end
-- ==== Proof.KernelIdealNormRegion.lean ====
/-
  The normalisation kernel over its grid, at a table of words below sixteen. Each point finds its block of recordings and
  the two statistics arrays, and leaves the normalised block (`normAt`); between the points nothing is kept but the table
  (`dat1`), and the body keeps to it at every point (`body_obligation1`).
-/
module

public import proofs.«01_k».proof.Proof.KernelIdealStatsRegion
public import Idealize.ShloMosaic.Lib.Pipeline.RegionArraysT

@[expose] public section

set_option maxRecDepth 16384

noncomputable section

namespace Cert.Proof.KernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

/-- The words of a table are all below sixteen. -/
def Small (T : Vec F S1024 .i32) : Prop := ∀ n, BitVec.toNat (T n) < 16

/-- A word below sixteen names a row of the statistics, -/
theorem statOk_of_lt (v : BitVec 32) (h : v.toNat < 16) : StatOk v := by
  intro a
  fin_cases a
  · show v.toNat + 1 ≤ 16; omega
  · show 0 + 248 ≤ 248; omega
  · show 0 + 128 ≤ 128; omega

/-- and so does each word the body reads. -/
theorem Small.ok {T : Vec F S1024 .i32} (h : Small T) (c : Dev nD) (i : grid1.Coords) (k : ℕ) (hk : k < 64) :
    StatOk (wordAt (F := F) c T i k hk) := statOk_of_lt _ (h _)

/-- The normalised block: row `k` is recording `k` of the block less its subject's mean, and so on (`normPay`). -/
def normAt (T : Vec F S1024 .i32) (hT : Small T) (c : Dev nD) (i : grid1.Coords) (X : Vec F S64x248x128 .f32)
    (M R : Vec F S16x248x128 .f32) : Vec F S64x248x128 .f32 := fun j =>
  normPay
    (View.ld X (Rect.unit (s := S64x248x128) ![(j 0).val, 0, 0] S1x248x128.size (row_inb (j 0).val (j 0).isLt)))
    (View.ld M (Rect.unit (s := S16x248x128) (statOff (wordAt (F := F) c T i (j 0).val (j 0).isLt)) S1x248x128.size (hT.ok c i _ _)))
    (View.ld R (Rect.unit (s := S16x248x128) (statOff (wordAt (F := F) c T i (j 0).val (j 0).isLt)) S1x248x128.size (hT.ok c i _ _)))
    (inRow j)

/-- What the body leaves is the normalised block of what its inputs read. -/
theorem normOut_read (T : Vec F S1024 .i32) (hT : Small T) (c : Dev nD) (i : grid1.Coords) {arg2 : Memref sig .tc .vmem S64x248x128 .f32}
    {arg3 arg4 : Memref sig .tc .vmem S16x248x128 .f32} (f2 : Bf (F := F) c arg2) (f3 : Bf (F := F) c arg3)
    (f4 : Bf (F := F) c arg4) (X : Vec F S64x248x128 .f32) (M R : Vec F S16x248x128 .f32)
    (e2 : arg2.view.read (Elt F) f2 = X) (e3 : arg3.view.read (Elt F) f3 = M) (e4 : arg4.view.read (Elt F) f4 = R) :
    normOut c i T f2 f3 f4 (hT.ok c i) = normAt T hT c i X M R := by
  subst e2 e3 e4; rfl

variable (V : (c : Dev nD) → (b : Ref sig .tc) → Buf (Elt F) ((c : Thread nD τ).loc b))

/-- The table as the pipeline's prefetched contents. -/
def adm1 (T : Vec F S1024 .i32) : (pcfg1 (F := F)).Adm := ⟨fun | ⟨0, _⟩ => T | ⟨_ + 1, h⟩ => absurd h (Nat.not_lt.2 (Nat.le_add_left _ _)), trivial⟩

variable (T : Vec F S1024 .i32) (hT : Small T)

/-- The recordings of block `t`, -/
def recs1 (c : Dev nD) (t : Fin grid1.N) : Vec F S64x248x128 .f32 := (((cfg1 (adm1 T)).win 0).blk t).view.read (Elt F) (V c main_v1)
/-- the means, -/
def means1 (c : Dev nD) (t : Fin grid1.N) : Vec F S16x248x128 .f32 := (((cfg1 (adm1 T)).win 1).blk t).view.read (Elt F) (V c main_v3_0)
/-- and the reciprocal deviations, as point `t` stages them. -/
def recips1 (c : Dev nD) (t : Fin grid1.N) : Vec F S16x248x128 .f32 := (((cfg1 (adm1 T)).win 2).blk t).view.read (Elt F) (V c main_v3_1)

/-- The block point `t` leaves. -/
def norms1 (c : Dev nD) (t : Fin grid1.N) : Vec F S64x248x128 .f32 :=
  normAt T hT c (grid1.coords t) (recs1 V T c t) (means1 V T c t) (recips1 V T c t)

/-- The invariant: the scoped buffers not staged, and the table. -/
def inv1 (c : Dev nD) : sProp 𝕄 :=
  iprop(Pipeline.scopedRest (Ix := Unit) (Name := ℕ) (U := UU) (Lvl := ℕ) (Val := Elt F) spec1 c
    ∗ Pipeline.prefHeld (Ix := Unit) (Name := ℕ) (U := UU) (Lvl := ℕ) pre1 c (fun _ => fullShare) (adm1 T).1)

/-- The table held is its buffer held. -/
theorem table_pt (c : Dev nD) :
    (Pipeline.prefHeld (Ix := Unit) (Name := ℕ) (U := UU) (Lvl := ℕ) pre1 c (fun _ => fullShare) (adm1 T).1 : sProp 𝕄) = pt c tbl T := by
  unfold Pipeline.prefHeld
  exact (bigSep_univ_eq_bigSepL [(0 : Fin 1)] (by decide) (by decide) _).trans rfl

/-- The proof data of the normalisation kernel's pipeline. -/
def dat1 (c : Dev nD) : Dat τ (Elt F) Unit ℕ UU ℕ (cfg1 (adm1 T)) c where
  A w := V c (Pipeline.arrRef spec1 w)
  after w t := match w with
    | ⟨0, _⟩ => recs1 V T c t
    | ⟨1, _⟩ => means1 V T c t
    | ⟨2, _⟩ => recips1 V T c t
    | ⟨3, _⟩ => norms1 V T hT c t
  Φ _ := inv1 T c
  q _ := fullShare
  owed _ := 0

/-- At every point the body finds the block of an input window in its staging buffer. -/
theorem before1_0 (c : Dev nD) (t : Fin grid1.N) (d) : (dat1 V T hT c).before 0 t d = recs1 V T c t :=
  ((dat1 V T hT c).before_in_eq_fetched 0 rfl (fun _ => rfl) (fun _ _ _ => rfl) (fun _ => rfl) t d).trans rfl
theorem before1_1 (c : Dev nD) (t : Fin grid1.N) (d) : (dat1 V T hT c).before 1 t d = means1 V T c t :=
  ((dat1 V T hT c).before_in_eq_fetched 1 rfl (fun _ => rfl) (fun _ _ _ => rfl) (fun _ => rfl) t d).trans rfl
theorem before1_2 (c : Dev nD) (t : Fin grid1.N) (d) : (dat1 V T hT c).before 2 t d = recips1 V T c t :=
  ((dat1 V T hT c).before_in_eq_fetched 2 rfl (fun _ => rfl) (fun _ _ _ => rfl) (fun _ => rfl) t d).trans rfl

/-- The current staging buffers at point `t`. -/
abbrev st1_0 (t : Fin grid1.N) := spec1_0.stage ((cfg1 (adm1 T)).slots t 0)
abbrev st1_1 (t : Fin grid1.N) := spec1_1.stage ((cfg1 (adm1 T)).slots t 1)
abbrev st1_2 (t : Fin grid1.N) := spec1_2.stage ((cfg1 (adm1 T)).slots t 2)
abbrev st1_3 (t : Fin grid1.N) := spec1_3.stage ((cfg1 (adm1 T)).slots t 3)

abbrev ws1_0 (t : Fin grid1.N) : (st1_0 T t).IsWhole := hstage1_0 (((cfg1 (adm1 T)).slots t 0).cast nbuf1_0)
abbrev ws1_1 (t : Fin grid1.N) : (st1_1 T t).IsWhole := hstage1_1 (((cfg1 (adm1 T)).slots t 1).cast nbuf1_1)
abbrev ws1_2 (t : Fin grid1.N) : (st1_2 T t).IsWhole := hstage1_2 (((cfg1 (adm1 T)).slots t 2).cast nbuf1_2)
abbrev ws1_3 (t : Fin grid1.N) : (st1_3 T t).IsWhole := hstage1_3 (((cfg1 (adm1 T)).slots t 3).cast nbuf1_3)

/-- The kernel's body at point `t`, from its staging buffers: the output is left at the normalised block. -/
theorem norm_point (c : Dev nD) (t : Fin grid1.N) (O : sProp 𝕄) (X : Vec F S64x248x128 .f32) :
    iprop(inv1 T c ∗ O ∗ owns (c : Thread nD τ) (st1_0 T t) fullShare (recs1 V T c t)
        ∗ owns (c : Thread nD τ) (st1_1 T t) fullShare (means1 V T c t)
        ∗ owns (c : Thread nD τ) (st1_2 T t) fullShare (recips1 V T c t) ∗ owns (c : Thread nD τ) (st1_3 T t) fullShare X)
      ⊢ wp frame (wpE (defs₀ (F := F)) Variants.none c none) Set.univ
          (cc1__norm_kernel (grid1.coords t) tbl (Memref.isWhole_whole _) (st1_0 T t) (ws1_0 T t) (st1_1 T t) (ws1_1 T t)
            (st1_2 T t) (ws1_2 T t) (st1_3 T t) (ws1_3 T t)) fun _ =>
        iprop(inv1 T c ∗ O ∗ owns (c : Thread nD τ) (st1_0 T t) fullShare (recs1 V T c t)
        ∗ owns (c : Thread nD τ) (st1_1 T t) fullShare (means1 V T c t)
        ∗ owns (c : Thread nD τ) (st1_2 T t) fullShare (recips1 V T c t)
        ∗ owns (c : Thread nD τ) (st1_3 T t) fullShare (norms1 V T hT c t)) := by
  unfold inv1
  rw [table_pt, owns_pt c (ws1_0 T t), owns_pt c (ws1_1 T t), owns_pt c (ws1_2 T t), owns_pt c (ws1_3 T t), owns_pt c (ws1_3 T t)]
  iintro ⟨⟨Hr, Ht⟩, HO, ⟨%f2, %e2, H2⟩, ⟨%f3, %e3, H3⟩, ⟨%f4, %e4, H4⟩, ⟨%f5, -, H5⟩⟩
  iapply (norm_body c (grid1.coords t) (st1_0 T t) (ws1_0 T t) (st1_1 T t) (st1_2 T t) (ws1_1 T t) (ws1_2 T t) (st1_3 T t) (ws1_3 T t)
    (Memref.isWhole_whole _) T f2 f3 f4 f5 (hT.ok c (grid1.coords t)) _)
  isplitl [Ht]; · iexact Ht
  isplitl [H2]; · iexact H2
  isplitl [H3]; · iexact H3
  isplitl [H4]; · iexact H4
  isplitl [H5]; · iexact H5
  iintro ⟨Ht, H2, H3, H4, H5⟩
  isplitl [Hr Ht]
  · isplitl [Hr]; · iexact Hr
    iexact Ht
  isplitl [HO]; · iexact HO
  isplitl [H2]
  · iexists f2; isplitr; · ipureintro; exact e2
    iexact H2
  isplitl [H3]
  · iexists f3; isplitr; · ipureintro; exact e3
    iexact H3
  isplitl [H4]
  · iexists f4; isplitr; · ipureintro; exact e4
    iexact H4
  iexists _; isplitr; swap; (· iexact H5)
  ipureintro
  exact (read_rows c (grid1.coords t) T f2 f3 f4 (hT.ok c (grid1.coords t)) _ f5).trans
    (normOut_read T hT c (grid1.coords t) f2 f3 f4 _ _ _ e2 e3 e4)

set_option backward.isDefEq.respectTransparency.types false in
/-- The body keeps to the proof data at every point. -/
theorem body_obligation1 (c : Dev nD) : BodyObligation (dat1 V T hT c) (defs₀ (F := F)) Variants.none () Set.univ := fun t => by
  rw [bigSep_W1, bigSep_W1, show (dat1 V T hT c).Φ t.castSucc = inv1 T c from rfl, show (dat1 V T hT c).Φ t.succ = inv1 T c from rfl]
  dsimp only
  simp only [before1_0, before1_1, before1_2]
  iintro ⟨HΦ, HO, ⟨%d0, H0⟩, ⟨%d1, H1⟩, ⟨%d2, H2⟩, ⟨%d3, H3⟩⟩
  iapply (norm_point V T hT c t ((dat1 V T hT c).owesAt () t.castSucc) _)
  isplitl [HΦ]; · iexact HΦ
  isplitl [HO]; · iexact HO
  isplitl [H0]; · iexact H0
  isplitl [H1]; · iexact H1
  isplitl [H2]; · iexact H2
  iexact H3

end Cert.Proof.KernelIdeal

end
-- ==== Proof.KernelIdealSegments.lean ====
/-
  The two kernels in @main. The first region is entered with the host's reshaped arrays and leaves the two statistics arrays;
  the second is entered with those and leaves the normalised array (`outs`). Each is a segment of @main (`seg0`, `seg1`)
  whose ends fit the generated valuations.
-/
module

public import proofs.«01_k».proof.Proof.KernelIdealNormRegion
public import proofs.«01_k».proof.Proof.Gen.KernelIdeal.Regions

@[expose] public section

set_option maxRecDepth 16384

noncomputable section

namespace Cert.Proof.KernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

open Idealize.ShloMosaic.Pipeline (RegionSeg LevelCut pin)

variable (m : (ℓ : Loc nD τ sig) → Buf (Elt F) ℓ)

/-- The table of subjects at launch: the one device's. -/
def tabOf : Vec F S1024 .i32 := m (((0 : Dev nD) : Thread nD τ).loc main_arg1)

/-- Every device is the one device. -/
theorem dev_eq (c : Dev nD) : c = 0 := Subsingleton.elim _ _

/-- The buffers the statistics kernel finds. -/
def inA (c : Dev nD) (b : Ref sig .tc) : Buf (Elt F) ((c : Thread nD τ).loc b) := V1 m c (Proc.devRef .tc b)

/-- What the statistics kernel leaves in its two results. -/
def meanArr (c : Dev nD) : Buf (Elt F) ((c : Thread nD τ).loc main_v3_0) := (dat0 (inA m) c).arrAt 2 cfg0.N
def recipArr (c : Dev nD) : Buf (Elt F) ((c : Thread nD τ).loc main_v3_1) := (dat0 (inA m) c).arrAt 3 cfg0.N

/-- The statistics kernel's results, -/
def outsA : Outs (F := F) := fun _ =>
  Function.update (Function.update (fun r c => m ((c : Thread nD τ).loc r)) main_v3_0 (meanArr m)) main_v3_1 (recipArr m)

/-- the buffers the normalisation kernel finds, -/
def inB (c : Dev nD) (b : Ref sig .tc) : Buf (Elt F) ((c : Thread nD τ).loc b) := V2 m (outsA m) c (Proc.devRef .tc b)

variable (hT : Small (tabOf m))

/-- what it leaves, -/
def normArr (c : Dev nD) : Buf (Elt F) ((c : Thread nD τ).loc main_v4) :=
  (dat1 (inB m) (tabOf m) hT c).arrAt 3 (cfg1 (adm1 (tabOf m))).N

/-- and every kernel's results, by their place in @main. -/
def outs : Outs (F := F) := fun
  | 2 => outsA m 2
  | _ => Function.update (fun r c => m ((c : Thread nD τ).loc r)) main_v4 (normArr m hT)

theorem V2_outs (c : Dev nD) : V2 m (outs m hT) c = V2 m (outsA m) c := rfl

theorem V2_mean (c : Dev nD) : V2 m (outsA m) c (Proc.devRef .tc main_v3_0) = meanArr m c := by
  rw [V2, Function.update_of_ne (StableHlo.devRef_ne_of_ne (by decide)), Function.update_self, outsA,
    Function.update_of_ne (by decide), Function.update_self]

theorem V2_recip (c : Dev nD) : V2 m (outsA m) c (Proc.devRef .tc main_v3_1) = recipArr m c := by
  rw [V2, Function.update_self, outsA, Function.update_self]

theorem V3_norm (c : Dev nD) : V3 m (outs m hT) c (Proc.devRef .tc main_v4) = normArr m hT c := by
  rw [V3, Function.update_self]
  show Function.update (β := fun r => (c : Dev nD) → Buf (Elt F) ((c : Thread nD τ).loc r)) (fun r c => m ((c : Thread nD τ).loc r))
    main_v4 (normArr m hT) main_v4 c = _
  rw [Function.update_self]

/-- The tables the two kernels run at. -/
def adm : (p : Fin 2) → (pcfgs (F := F) p).Adm
  | ⟨0, _⟩ => cfg0.toPCfg_adm
  | ⟨1, _⟩ => adm1 (tabOf m)

/-- The two pipelines' proof data. -/
def pdats : (p : Fin 2) → (c : Dev nD) → Dat τ (Elt F) Unit ℕ UU ℕ (pin (pcfgs (F := F)) (adm m) p) c
  | ⟨0, _⟩ => fun c => dat0 (inA m) c
  | ⟨1, _⟩ => fun c => dat1 (inB m) (tabOf m) hT c

/-- Every TensorCore's counter is used at the one index, at level zero. -/
def lvs : GSem nD τ sig → Finset Unit := fun g => if g.1.2 = .tc then {()} else ∅

theorem lvs_tc : ∀ g : GSem nD τ sig, g.1.2 ≠ .tc → lvs g = ∅ := fun _ h => if_neg h

theorem levelCut (p : Fin 2) : LevelCut (pcfgs (F := F)) (adm m) () lvs (fun _ _ => (0 : ℕ)) p (fun _ => 0) (fun _ => 0) where
  hι _ _ _ := by
    show () ∈ (if _ then _ else _)
    rw [if_pos rfl]; exact Finset.mem_singleton_self _
  hιb _ _ _ := le_rfl
  hD _ _ _ h := absurd h (lt_irrefl _)

/-- The invariant of the statistics kernel's last point gives its scratch buffers back. -/
theorem inv0_last (V : (c : Dev nD) → (b : Ref sig .tc) → Buf (Elt F) ((c : Thread nD τ).loc b)) (c : Dev nD) (n : ℕ) :
    inv0 V c n ⊢ (Pipeline.scopedRest (Ix := Unit) (Name := ℕ) (U := UU) (Lvl := ℕ) (Val := Elt F) spec0 c : sProp 𝕄) := by
  rw [scopedRest0_inv V c]
  cases n with
  | zero => exact .rfl
  | succ n =>
    unfold inv0 anyBuf
    iintro ⟨H0, H1, H2, H3⟩
    isplitl [H0]; · iexists _; iexact H0
    isplitl [H1]; · iexists _; iexact H1
    isplitl [H2]; · iexists _; iexact H2
    iexact H3

/-- The statistics kernel's segment. -/
def seg0 : RegionSeg (pcfgs (F := F)) (adm m) (pdats m hT) () defs₀ Variants.none lvs (fun _ _ => (0 : ℕ)) 0 :=
  RegionSeg.ofHeld (pcfgs (F := F)) (adm m) (pdats m hT) () defs₀ Variants.none lvs (fun _ _ => (0 : ℕ)) 0 (fun _ => 0)
    (fun _ => iprop(emp)) (fun _ => iprop(emp)) launch0 rfl
    (fun c => (body_obligation0 (inA m) c).loose) (fun _ _ => rfl) (fun _ => rfl)
    (fun c w => Dat.share_full _ (fun _ => rfl) w)
    (fun c => by
      show iprop(Pipeline.scopedRest spec0 c ∗ emp) ⊢ inv0 (inA m) c 0
      rw [← scopedRest0_inv (inA m) c]; iintro ⟨H, -⟩; iexact H)
    (fun c => by
      show inv0 (inA m) c cfg0.N ⊢ iprop(Pipeline.scopedRest spec0 c ∗ emp)
      refine (inv0_last (inA m) c _).trans ?_
      iintro H; isplitl [H]; · iexact H
      iempintro)
    (fun _ => 0) (levelCut m 0)
    (fun c => StableHlo.held (c : Thread nD τ) (Pipeline.ucRefs τ sig \ Pipeline.arrRefs spec0) (V1 m c))
    (V1 m) (V2 m (outs m hT))
    (fun _ _ => rfl)
    (fun c w => by
      rw [V2_outs]
      match w with
      | ⟨0, _⟩ => exact ((dat0 (inA m) c).arrAt_in 0 rfl _).trans (V2_of m (outsA m) c main_v2 (by decide)).symm
      | ⟨1, _⟩ => exact ((dat0 (inA m) c).arrAt_in 1 rfl _).trans (V2_of m (outsA m) c main_v1 (by decide)).symm
      | ⟨2, _⟩ => exact (V2_mean m c).symm
      | ⟨3, _⟩ => exact (V2_recip m c).symm)

/-- The normalisation kernel's segment. -/
def seg1 : RegionSeg (pcfgs (F := F)) (adm m) (pdats m hT) () defs₀ Variants.none lvs (fun _ _ => (0 : ℕ)) 1 :=
  RegionSeg.ofHeldT (pcfgs (F := F)) (adm m) (pdats m hT) () defs₀ Variants.none lvs (fun _ _ => (0 : ℕ)) 1 (fun _ => 0)
    (fun _ => iprop(emp)) (fun _ => iprop(emp)) launch1
    (fun c => (body_obligation1 (inB m) (tabOf m) hT c).loose) (fun _ _ => rfl) (fun _ => rfl)
    (fun c w => Dat.share_full _ (fun _ => rfl) w)
    (fun c => by
      show iprop(iprop(Pipeline.scopedRest spec1 c ∗ emp) ∗ _) ⊢ inv1 (tabOf m) c
      unfold inv1
      iintro ⟨⟨H, -⟩, Ht⟩
      isplitl [H]; · iexact H
      iexact Ht)
    (fun c => by
      show inv1 (tabOf m) c ⊢ iprop(iprop(Pipeline.scopedRest spec1 c ∗ emp) ∗ _)
      unfold inv1
      iintro ⟨H, Ht⟩
      isplitl [H]
      · isplitl [H]; · iexact H
        iempintro
      iexact Ht)
    (fun _ => 0) (levelCut m 1)
    (fun c => StableHlo.held (c : Thread nD τ) ((Pipeline.ucRefs τ sig \ Pipeline.arrRefs spec1) \ Pipeline.tblRefs pre1) (V2 m (outs m hT) c))
    (V2 m (outs m hT)) (V3 m (outs m hT))
    (fun _ _ => rfl)
    (fun c k => by
      obtain rfl := dev_eq c
      match k with
      | ⟨0, _⟩ => exact ((V2_of m (outs m hT) 0 main_arg1 (by decide)).trans (V1_of m 0 main_arg1 (by decide))).symm)
    (fun c w => by
      match w with
      | ⟨0, _⟩ => exact ((dat1 (inB m) (tabOf m) hT c).arrAt_in 0 rfl _).trans (V3_of m (outs m hT) c main_v1 (by decide)).symm
      | ⟨1, _⟩ => exact ((dat1 (inB m) (tabOf m) hT c).arrAt_in 1 rfl _).trans (V3_of m (outs m hT) c main_v3_0 (by decide)).symm
      | ⟨2, _⟩ => exact ((dat1 (inB m) (tabOf m) hT c).arrAt_in 2 rfl _).trans (V3_of m (outs m hT) c main_v3_1 (by decide)).symm
      | ⟨3, _⟩ => exact (V3_norm m hT c).symm)
    (fun c k => by
      obtain rfl := dev_eq c
      match k with
      | ⟨0, _⟩ => exact ((V3_of m (outs m hT) 0 main_arg1 (by decide)).trans
          ((V2_of m (outs m hT) 0 main_arg1 (by decide)).trans (V1_of m 0 main_arg1 (by decide)))).symm)

/-- Between the items of @main a core owes nothing. -/
def quiet (c : Dev nD) : sProp 𝕄 := iprop(∃ W, owes (c : Thread nD τ) (0 : CellTallies nD τ sig Unit) W)

/-- The statistics kernel is entered from every buffer at `V1`, -/
theorem pre0 (c : Dev nD) :
    iprop(StableHlo.held (c : Thread nD τ) (Pipeline.ucRefs τ sig) (V1 m c) ∗ quiet (F := F) c) ⊢ (seg0 m hT).pre c := by
  rw [StableHlo.held_sub_split (c : Thread nD τ) (Pipeline.arrRefs_sub_ucRefs spec0 winFacts0.arr_unscoped) (V1 m c)]
  show _ ⊢ iprop(StableHlo.held (c : Thread nD τ) (Pipeline.arrRefs spec0) (V1 m c) ∗ emp
    ∗ StableHlo.held (c : Thread nD τ) (Pipeline.ucRefs τ sig \ Pipeline.arrRefs spec0) (V1 m c) ∗ quiet (F := F) c)
  iintro ⟨⟨Ha, Hr⟩, Hq⟩
  isplitl [Ha]; · iexact Ha
  isplitr; · iempintro
  isplitl [Hr]; · iexact Hr
  iexact Hq

/-- and left with every buffer at `V2`; -/
theorem post0 (c : Dev nD) :
    (seg0 m hT).post c ⊢ iprop(StableHlo.held (c : Thread nD τ) (Pipeline.ucRefs τ sig) (V2 m (outs m hT) c) ∗ quiet (F := F) c) := by
  rw [StableHlo.held_sub_split (c : Thread nD τ) (Pipeline.arrRefs_sub_ucRefs spec0 winFacts0.arr_unscoped) (V2 m (outs m hT) c)]
  have hr : StableHlo.held (c : Thread nD τ) (Pipeline.ucRefs τ sig \ Pipeline.arrRefs spec0) (V2 m (outs m hT) c)
      = (StableHlo.held (c : Thread nD τ) (Pipeline.ucRefs τ sig \ Pipeline.arrRefs spec0) (V1 m c) : sProp 𝕄) :=
    StableHlo.held_congr (c : Thread nD τ) fun b hb => by
      have h2 : b ≠ Proc.devRef .tc main_v3_0 := by rintro rfl; exact absurd hb (by decide)
      have h3 : b ≠ Proc.devRef .tc main_v3_1 := by rintro rfl; exact absurd hb (by decide)
      rw [V2, Function.update_of_ne h3, Function.update_of_ne h2]
  rw [hr]
  show iprop(StableHlo.held (c : Thread nD τ) (Pipeline.arrRefs spec0) (V2 m (outs m hT) c) ∗ emp
    ∗ StableHlo.held (c : Thread nD τ) (Pipeline.ucRefs τ sig \ Pipeline.arrRefs spec0) (V1 m c) ∗ quiet (F := F) c) ⊢ _
  iintro ⟨Ha, -, Hr, Hq⟩
  isplitr [Hq]
  · isplitl [Ha]; · iexact Ha
    iexact Hr
  iexact Hq

/-- the normalisation kernel is entered from there, -/
theorem pre1' (c : Dev nD) :
    iprop(StableHlo.held (c : Thread nD τ) (Pipeline.ucRefs τ sig) (V2 m (outs m hT) c) ∗ quiet (F := F) c) ⊢ (seg1 m hT).pre c := by
  rw [StableHlo.held_sub_split (c : Thread nD τ) (Pipeline.arrRefs_sub_ucRefs spec1 winFacts1.arr_unscoped) (V2 m (outs m hT) c),
    StableHlo.held_sub_split (c : Thread nD τ) (Pipeline.tblRefs_sub_ucRefs_sdiff spec1 pre1 preFacts1.unscoped preFacts1.disj) (V2 m (outs m hT) c)]
  show _ ⊢ iprop(StableHlo.held (c : Thread nD τ) (Pipeline.arrRefs spec1) (V2 m (outs m hT) c)
    ∗ StableHlo.held (c : Thread nD τ) (Pipeline.tblRefs pre1) (V2 m (outs m hT) c) ∗ emp
    ∗ StableHlo.held (c : Thread nD τ) ((Pipeline.ucRefs τ sig \ Pipeline.arrRefs spec1) \ Pipeline.tblRefs pre1) (V2 m (outs m hT) c)
    ∗ quiet (F := F) c)
  iintro ⟨⟨Ha, Ht, Hr⟩, Hq⟩
  isplitl [Ha]; · iexact Ha
  isplitl [Ht]; · iexact Ht
  isplitr; · iempintro
  isplitl [Hr]; · iexact Hr
  iexact Hq

/-- and left with every buffer at `V3`. -/
theorem post1 (c : Dev nD) :
    (seg1 m hT).post c ⊢ iprop(StableHlo.held (c : Thread nD τ) (Pipeline.ucRefs τ sig) (V3 m (outs m hT) c) ∗ quiet (F := F) c) := by
  rw [StableHlo.held_sub_split (c : Thread nD τ) (Pipeline.arrRefs_sub_ucRefs spec1 winFacts1.arr_unscoped) (V3 m (outs m hT) c),
    StableHlo.held_sub_split (c : Thread nD τ) (Pipeline.tblRefs_sub_ucRefs_sdiff spec1 pre1 preFacts1.unscoped preFacts1.disj) (V3 m (outs m hT) c)]
  have hr : StableHlo.held (c : Thread nD τ) ((Pipeline.ucRefs τ sig \ Pipeline.arrRefs spec1) \ Pipeline.tblRefs pre1) (V3 m (outs m hT) c)
      = (StableHlo.held (c : Thread nD τ) ((Pipeline.ucRefs τ sig \ Pipeline.arrRefs spec1) \ Pipeline.tblRefs pre1) (V2 m (outs m hT) c) : sProp 𝕄) :=
    StableHlo.held_congr (c : Thread nD τ) fun b hb => by
      have h4 : b ≠ Proc.devRef .tc main_v4 := by rintro rfl; exact absurd hb (by decide)
      rw [V3, Function.update_of_ne h4]
  rw [hr]
  show iprop(StableHlo.held (c : Thread nD τ) (Pipeline.arrRefs spec1) (V3 m (outs m hT) c)
    ∗ StableHlo.held (c : Thread nD τ) (Pipeline.tblRefs pre1) (V3 m (outs m hT) c) ∗ emp
    ∗ StableHlo.held (c : Thread nD τ) ((Pipeline.ucRefs τ sig \ Pipeline.arrRefs spec1) \ Pipeline.tblRefs pre1) (V2 m (outs m hT) c)
    ∗ quiet (F := F) c) ⊢ _
  iintro ⟨Ha, Ht, -, Hr, Hq⟩
  isplitr [Hq]
  · isplitl [Ha]; · iexact Ha
    isplitl [Ht]; · iexact Ht
    iexact Hr
  iexact Hq

end Cert.Proof.KernelIdeal

end
-- ==== Proof.KernelIdealRun.lean ====
/-
  The kernel's run. From any memory whose table of subjects is below sixteen, @main terminates with its arguments as
  launched, its result at the value the host's last operations make of the normalised array, and every counter at zero
  (`run_main`).
-/
module

public import proofs.«01_k».proof.Proof.KernelIdealSegments

@[expose] public section

set_option maxRecDepth 16384

noncomputable section

namespace Cert.Proof.KernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

open Idealize.ShloMosaic.Pipeline (RegionSeg LevelCut pin)

variable (m : (ℓ : Loc nD τ sig) → Buf (Elt F) ℓ) (hT : Small (tabOf m)) (ρ : Dev nD → PrngReg)

/-- The two pipelines' copy of the rounds' algebra. -/
abbrev EP : Emb (UR sig nD τ) (MT nD τ sig Unit (Elt F) ℕ UU ℕ) := emb₁

/-- The launch element: both pipelines' cells. -/
def u₀ : UU := initOf (Pipeline.cells (pin (pcfgs (F := F)) (adm m)) (cellOf_inj (adm m)))
  (Pipeline.launchToks (pin (pcfgs (F := F)) (adm m)) (cellOf_inj (adm m)))

/-- It is what the pipelines need, and nothing else. -/
theorem launch_elem : (ownU (u₀ m) : sProp 𝕄) ⊢ |={Set.univ}=> iprop(BI.own (EP (F := F)
      (initOf (Pipeline.cells (pin (pcfgs (F := F)) (adm m)) (cellOf_inj (adm m)))
        (Pipeline.launchToks (pin (pcfgs (F := F)) (adm m)) (cellOf_inj (adm m)))))
      ∗ bigSep Finset.univ fun _ : Dev nD => iprop(emp)) := by
  iintro Hu
  imodintro
  isplitl [Hu]
  · iapply (show (ownU (u₀ m) : sProp 𝕄) ⊢ BI.own (EP (F := F) (u₀ m)) from .rfl)
    iexact Hu
  · iapply (show (BI.emp : sProp 𝕄) ⊢ bigSep Finset.univ (fun _ : Dev nD => (BI.emp : sProp 𝕄)) from by rw [BI.bigSep_emp_const])
    iempintro

/-- At launch every buffer is held at its launch contents and no core owes anything. -/
theorem launch_state :
    iprop((bigSep Finset.univ fun c : Dev nD => iprop(unscopedBufs c (fun b => m ((c : Thread nD τ).loc b)) ∗ unscopedSems0 c
          ∗ owes (c : Thread nD τ) (0 : CellTallies nD τ sig Unit) ∅ ∗ Pipeline.launchCred (fun _ => 0) c ∗ prngReg c (ρ c) ∗ emp))
        ∗ levAts lvs (fun _ _ => (0 : ℕ)))
      ⊢ (|={Set.univ}=> bigSep Finset.univ (fun c : Dev nD =>
          iprop(StableHlo.held (c : Thread nD τ) (Pipeline.ucRefs τ sig) (V0 m c) ∗ quiet (F := F) c)) : sProp 𝕄) := by
  have h (c : Dev nD) : iprop(unscopedBufs c (fun b => m ((c : Thread nD τ).loc b)) ∗ unscopedSems0 c
        ∗ owes (c : Thread nD τ) (0 : CellTallies nD τ sig Unit) ∅ ∗ Pipeline.launchCred (fun _ => 0) c ∗ prngReg c (ρ c) ∗ emp)
      ⊢ (iprop(StableHlo.held (c : Thread nD τ) (Pipeline.ucRefs τ sig) (V0 m c) ∗ quiet (F := F) c) : sProp 𝕄) := by
    rw [← Pipeline.unscopedBufs_held (Ix := Unit) (Name := ℕ) (U := UU) (Lvl := ℕ) c (V0 m c)]
    unfold quiet
    iintro ⟨Hb, -, Ho, -, -, -⟩
    isplitl [Hb]; · iexact Hb
    iexists _; iexact Ho
  have hs : (bigSep Finset.univ fun c : Dev nD => iprop(unscopedBufs c (fun b => m ((c : Thread nD τ).loc b)) ∗ unscopedSems0 c
        ∗ owes (c : Thread nD τ) (0 : CellTallies nD τ sig Unit) ∅ ∗ Pipeline.launchCred (fun _ => 0) c ∗ prngReg c (ρ c) ∗ emp))
      ⊢ (bigSep Finset.univ fun c : Dev nD =>
          iprop(StableHlo.held (c : Thread nD τ) (Pipeline.ucRefs τ sig) (V0 m c) ∗ quiet (F := F) c) : sProp 𝕄) :=
    bigSep_mono fun c _ => h c
  iintro ⟨H, -⟩
  imodintro
  iapply hs
  iexact H

/-- @main as the generated list of segments. -/
def mainSegs (c : Dev nD) : List (Pipeline.Seg (pcfgs (F := F)) (adm m) (pdats m hT) () defs₀ Variants.none lvs (fun _ _ => (0 : ℕ))) :=
  segs m (outs m hT) Variants.none lvs (fun _ _ => (0 : ℕ)) (fun _ c => quiet (F := F) c) () (adm m) (pdats m hT) (seg0 m hT) (seg1 m hT) c

/-- What the run leaves on a device: the arguments as launched and the result at its value. -/
def Left (c : Dev nD) (s : MemSt nD τ sig (Elt F)) : Prop :=
  s.mem ((c : Thread nD τ).loc main_v6) = V4 m (outs m hT) c (Proc.devRef .tc main_v6)
  ∧ s.mem ((c : Thread nD τ).loc main_arg0) = m ((c : Thread nD τ).loc main_arg0)
  ∧ s.mem ((c : Thread nD τ).loc main_arg1) = m ((c : Thread nD τ).loc main_arg1)

/-- The last state of the buffers, read off. -/
theorem left_of_held (c : Dev nD) (s' : Phys nD τ sig (Elt F)) :
    iprop(StableHlo.held (c : Thread nD τ) (Pipeline.ucRefs τ sig) (V4 m (outs m hT) c) ∗ SI s')
      ⊢ (|={Set.univ}=> iprop(⌜Left m hT c s'.mem⌝ ∗ SI s') : sProp 𝕄) := by
  unfold StableHlo.held
  iintro ⟨Hh, HSI⟩
  ihave Hr := (pointsTo_read_all (Pipeline.ucRefs τ sig) (fun b => ((c : Thread nD τ).1, b)) (V4 m (outs m hT) c) s') $$ [Hh HSI]
  · isplitl [Hh] <;> iassumption
  icases Hr with ⟨%h, HSI⟩
  imodintro
  isplitr
  · ipureintro
    exact ⟨h (Proc.devRef .tc main_v6) (Finset.mem_filter.mpr ⟨StableHlo.devRef_mem_tcRefs main_v6, by decide⟩),
      (h (Proc.devRef .tc main_arg0) (Finset.mem_filter.mpr ⟨StableHlo.devRef_mem_tcRefs main_arg0, by decide⟩)).trans (V4_main_arg0 m (outs m hT) c),
      (h (Proc.devRef .tc main_arg1) (Finset.mem_filter.mpr ⟨StableHlo.devRef_mem_tcRefs main_arg1, by decide⟩)).trans (V4_main_arg1 m (outs m hT) c)⟩
  · iexact HSI

set_option backward.isDefEq.respectTransparency.types false in
/-- Every run of @main terminates; on every device the arguments are as launched and the result is what the host makes of
    the normalised array; every counter is zero. -/
theorem run_main : θ_run defs (onTc (τ := τ) (main (F := F))) ⟨m, fun _ => 0, ρ⟩
    (fun r => (∀ c : Dev nD, Left m hT c r.2) ∧ r.2.sem = fun _ => 0) :=
  Pipeline.θ_run_regions_kit_dev_sems (pcfgs (F := F)) (adm m) (pdats m hT) () (cellOf_inj (adm m)) EP defs₀ Variants.none lvs
    (fun _ _ => (0 : ℕ)) m ρ main (mainSegs m hT)
    (fun c Q => by
      rewrite [main_chain c, Pipeline.Seg.run_eq_chain,
        show (mainSegs m hT c).map Pipeline.Seg.prog = [
          StableHlo.seq hostOps0,
          Prog.lift (.customCall (Pipeline.entry 0) ()),
          Prog.lift (.customCall (Pipeline.entry 1) ()),
          StableHlo.seq hostOps2 ] from rfl]
      dsimp (config := { failIfUnchanged := false }) only
      exact .rfl)
    (fun c => by simp only [mainSegs, segs, Pipeline.Seg.pipes_host, Pipeline.Seg.pipes_region, Pipeline.Seg.pipes_nil]; decide)
    (fun _ => 0) lvs_tc (fun _ => iprop(emp)) (u₀ m) (launch_elem m)
    (T₀ := fun c => iprop(StableHlo.held (c : Thread nD τ) (Pipeline.ucRefs τ sig) (V0 m c) ∗ quiet (F := F) c))
    (Tₙ := fun c => StableHlo.held (c : Thread nD τ) (Pipeline.ucRefs τ sig) (V4 m (outs m hT) c))
    (hch := fun c => ⟨.rfl, pre0 m hT c, (post0 m hT c).trans (pre1' m hT c), post1 m hT c, .rfl⟩)
    (hinit := launch_state m ρ)
    (QY := fun c s => Left m hT c s)
    (hfin := fun c s' => left_of_held m hT c s')
    (hQ := fun _ h hz => ⟨h, funext fun g => hz g (.inr (regions_no_unscoped g.2))⟩)

end Cert.Proof.KernelIdeal

end
-- ==== Proof.Decode.lean ====
/-
  The precondition `subjects`, element by element: the words of `sub` are below sixteen.
-/
module

public import proofs.«01_k».proof.Proof.Gen.Pre_subjects

@[expose] public section

noncomputable section

namespace Cert.Proof

open Idealize.ShloMosaic

variable {F : FTy → Type} [FloatOps F]

theorem andi_ofBool (p q : Bool) : IntOp.andi (BitVec.ofBool p) (BitVec.ofBool q) = BitVec.ofBool (p && q) := by
  cases p <;> cases q <;> decide

theorem ofBool_eq_one (p : Bool) : (BitVec.ofBool p = 1#1) ↔ p = true := by cases p <;> decide

/-- A word at least zero and below sixteen, read signed, is below sixteen read unsigned. -/
theorem toNat_lt_of_signed (v : BitVec 32) (h0 : BitVec.sle 0#32 v = true) (h1 : BitVec.slt v 16#32 = true) : v.toNat < 16 := by
  simp only [BitVec.sle, BitVec.slt, decide_eq_true_eq, BitVec.toInt, BitVec.toNat_ofNat] at h0 h1
  omega

/-- `subjects`: every word is below sixteen. -/
theorem small_of_subjects (x : FVec F Cert.Pre_subjects.S1024x4x62x128 .f32) (s : IVec Cert.Pre_subjects.S1024 32)
    (h : Cert.Pre_subjects.fn x s = fun _ => 1#1) (n : Cert.Pre_subjects.S1024.Idx) : (s n).toNat < 16 := by
  have e := congrFun h n
  simp only [Cert.Pre_subjects.fn, andi, cmpi, broadcastInDim, constantI, IntOp.cmpi, andi_ofBool, ofBool_eq_one,
    Bool.and_eq_true] at e
  exact toNat_lt_of_signed _ e.1 e.2

end Cert.Proof

end
-- ==== Proof.Frames.lean ====
/-
  The claims without a value: the three programs run and leave their arguments, and the idealisation keeps the meaning of the
  constant it names.
-/
module

public import proofs.«01_k».proof.Defs
public import proofs.«01_k».proof.Proof.KernelRun
public import proofs.«01_k».proof.Proof.KernelIdealRun
public import proofs.«01_k».proof.Proof.Decode
public import proofs.«01_k».proof.Proof.Gen.ReferenceIdeal.Run
public import Idealize.ShloMosaic.Lib.Quiescent

@[expose] public section

noncomputable section

namespace Cert.Proof

open Idealize.ShloMosaic Idealize.SL.Sem

/-- The kernel as compiled: with every word of `sub` below sixteen it runs, leaves its arguments and every counter at zero. -/
theorem frame_kernel : Cert.quiescent_Kernel := fun m ρ h =>
  (θ_run Cert.Kernel.defs _ _).mono (fun _ hr => ⟨fun c => (hr.1 c).2, hr.2⟩)
    (Cert.Proof.Kernel.run_main m (small_of_subjects _ _ (h 0)) ρ)

/-- The idealised kernel likewise. -/
theorem frame_kernelIdeal : Cert.quiescent_KernelIdeal := fun m ρ h =>
  (θ_run Cert.KernelIdeal.defs _ _).mono (fun _ hr => ⟨fun c => (hr.1 c).2, hr.2⟩)
    (Cert.Proof.KernelIdeal.run_main m (small_of_subjects _ _ (h 0)) ρ)

/-- The reference runs from any memory; it has no counters. -/
theorem frame_reference : Cert.quiescent_ReferenceIdeal := fun m ρ _ =>
  (θ_run Cert.ReferenceIdeal.defs _ _).mono (fun r hr => ⟨fun c => (hr c).2, sem_eq_zero_of_no_sems (by decide) r.2⟩)
    (Cert.ReferenceIdeal.Value.run m ρ)

/-- The named constant is `1/127` to within its rounding. -/
theorem preserves : Cert.preserves_Kernel_KernelIdeal :=
  IdealRules.named_const.statement Cert.KernelIdeal.κ "inv_wm1" .f32 0x3C010204#32 ((127⁻¹ : ℝ) : EReal) rfl

end Cert.Proof

end
-- ==== Proof.DecodeFinite.lean ====
/-
  The precondition `finite_subjects`, element by element: the words of `sub` are below sixteen, and the elements of `x` are
  reals.
-/
module

public import proofs.«01_k».proof.Proof.Decode
public import proofs.«01_k».proof.Proof.Gen.Pre_finite_subjects
public import Idealize.ShloMosaic.PureOps.Ideal

@[expose] public section

noncomputable section

namespace Cert.Proof

open Idealize.ShloMosaic

variable {F : FTy → Type} [FloatOps F]

/-- The two infinities' patterns. -/
theorem ofBits_top : Ideal.ofBits .f32 0x7F800000#32 = ⊤ := by simp [Ideal.ofBits, Ideal.ieee]
theorem ofBits_bot : Ideal.ofBits .f32 0xFF800000#32 = ⊥ := by simp [Ideal.ofBits, Ideal.ieee]

/-- An extended real between the infinities is a real. -/
theorem real_of_between (x : EReal) (h1 : x < ⊤) (h2 : ⊥ < x) : ∃ r : ℝ, x = (r : EReal) :=
  ⟨x.toReal, (EReal.coe_toReal h1.ne h2.ne').symm⟩

/-- `finite_subjects`: every word is below sixteen, -/
theorem small_of_finite (x : FVec F Cert.Pre_finite_subjects.S1024x4x62x128 .f32) (s : IVec Cert.Pre_finite_subjects.S1024 32)
    (h : (Cert.Pre_finite_subjects.fn x s).1 = fun _ => 1#1) (n : Cert.Pre_finite_subjects.S1024.Idx) : (s n).toNat < 16 := by
  have e := congrFun h n
  simp only [Cert.Pre_finite_subjects.fn, andi, cmpi, broadcastInDim, constantI, IntOp.cmpi, andi_ofBool, ofBool_eq_one,
    Bool.and_eq_true] at e
  exact toNat_lt_of_signed _ e.1 e.2

/-- and every element of `x` is a real. -/
theorem real_of_finite (x : FVec Ideal Cert.Pre_finite_subjects.S1024x4x62x128 .f32) (s : IVec Cert.Pre_finite_subjects.S1024 32)
    (h : (Cert.Pre_finite_subjects.fn x s).2 = fun _ => 1#1) (n : Cert.Pre_finite_subjects.S1024x4x62x128.Idx) :
    ∃ r : ℝ, (x n : EReal) = (r : EReal) := by
  have e := congrFun h n
  simp only [Cert.Pre_finite_subjects.fn, andi, cmpf, broadcastInDim, constant, Ideal.ofBits_def, ofBits_top, ofBits_bot] at e
  change IntOp.andi (BitVec.ofBool (decide (x n < (⊤ : EReal)))) (BitVec.ofBool (decide ((⊥ : EReal) < x n))) = 1#1 at e
  simp only [andi_ofBool, ofBool_eq_one, Bool.and_eq_true, decide_eq_true_eq] at e
  exact real_of_between (x n) e.1 e.2

end Cert.Proof

end
-- ==== Proof.Reals.lean ====
/-
  The extended reals where every value is a real: sums, quotients and roots of reals, and the float patterns the two programs
  spell.
-/
module

public import Idealize.ShloMosaic.Lib.IdealHost
public import Idealize.ShloMosaic.PureOps.Ideal

@[expose] public section

noncomputable section

namespace Cert.Proof

open Idealize.ShloMosaic

/-- A finite sum of reals, summed in the extended reals. -/
theorem coe_sum {ι : Type} (S : Finset ι) (f : ι → ℝ) : ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

/-- A quotient of reals by a real that is not zero. -/
theorem div_coe {a b : ℝ} (hb : b ≠ 0) : Ideal.div (a : EReal) (b : EReal) = ((a / b : ℝ) : EReal) := by
  have h : (b : EReal) ≠ 0 := by exact_mod_cast hb
  rw [Ideal.div, if_neg h, ← EReal.coe_inv, ← EReal.coe_mul, div_eq_mul_inv]

/-- The root of a real that is not negative. -/
theorem sqrt_coe {a : ℝ} (ha : 0 ≤ a) : Ideal.sqrt (a : EReal) = ((Real.sqrt a : ℝ) : EReal) := by
  change (if a < 0 then (⊥ : EReal) else ((Real.sqrt a : ℝ) : EReal)) = _
  rw [if_neg (not_lt.mpr ha)]

/-- The greater of two reals. -/
theorem max_coe (a b : ℝ) : max (a : EReal) (b : EReal) = ((max a b : ℝ) : EReal) :=
  (EReal.coe_strictMono.monotone.map_max (a := a) (b := b)).symm

/-- The number added to a standard deviation: the float nearest to `1e-5`. -/
def eps : ℝ := 10995116 / 2 ^ 40

theorem eps_pos : 0 < eps := by unfold eps; norm_num

theorem ofBits_eps : Ideal.ofBits .f32 0x3727C5AC#32 = (eps : EReal) := by
  simp [Ideal.ofBits, Ideal.ieee, eps, -EReal.coe_mul]; norm_num

theorem ofBits_one : Ideal.ofBits .f32 0x3F800000#32 = ((1 : ℝ) : EReal) := by
  rw [Ideal.ofBits_one_f32]; norm_num

theorem ofBits_zero : Ideal.ofBits .f32 0x00000000#32 = ((0 : ℝ) : EReal) := by
  simp [Ideal.ofBits, Ideal.ieee]

theorem ofBits_128 : Ideal.ofBits .f32 0x43000000#32 = ((128 : ℝ) : EReal) := by
  simp [Ideal.ofBits, Ideal.ieee, -EReal.coe_mul]; norm_num

theorem ofBits_127 : Ideal.ofBits .f32 0x42FE0000#32 = ((127 : ℝ) : EReal) := by
  simp [Ideal.ofBits, Ideal.ieee, -EReal.coe_mul]; norm_num

end Cert.Proof

end
-- ==== Proof.Spec.lean ====
/-
  What both programs compute, in real numbers. A batch of 1024 recordings, each with the number of a subject; a recording
  is normalised by the mean and the standard deviation of its subject's recordings, and then along its last axis.
-/
module

public import proofs.«01_k».proof.Proof.Reals

@[expose] public section

noncomputable section

namespace Cert.Proof

/-- How many recordings are subject `k`'s. -/
def count (s : Fin 1024 → BitVec 32) (k : BitVec 32) : ℕ := (Finset.univ.filter fun b => s b = k).card

/-- The sum over subject `k`'s recordings. -/
def sumOf (s : Fin 1024 → BitVec 32) (k : BitVec 32) (a : Fin 1024 → ℝ) : ℝ := ∑ b, if s b = k then a b else 0

/-- The mean over subject `k`'s recordings. -/
def mean (s : Fin 1024 → BitVec 32) (k : BitVec 32) (a : Fin 1024 → ℝ) : ℝ := sumOf s k a / max (count s k : ℝ) 1

/-- The unbiased variance over subject `k`'s recordings. -/
def var (s : Fin 1024 → BitVec 32) (k : BitVec 32) (a : Fin 1024 → ℝ) : ℝ :=
  sumOf s k (fun b => (a b - mean s k a) * (a b - mean s k a)) / max (max (count s k : ℝ) 1 - 1) 1

/-- The standard deviation over subject `k`'s recordings, moved off zero. -/
def dev (s : Fin 1024 → BitVec 32) (k : BitVec 32) (a : Fin 1024 → ℝ) : ℝ := Real.sqrt (var s k a) + eps

/-- A line of 128 samples, its mean subtracted. -/
def centred (y : Fin 128 → ℝ) (w : Fin 128) : ℝ := y w - (∑ v, y v) / 128

/-- A line of 128 samples, normalised by its own mean and unbiased standard deviation. -/
def lineNorm (y : Fin 128 → ℝ) (w : Fin 128) : ℝ :=
  centred y w / (Real.sqrt ((∑ v, centred y v * centred y v) / 127) + eps)

/-- The deviation of a line, moved off zero. -/
theorem lineDev_pos (y : Fin 128 → ℝ) : 0 < Real.sqrt ((∑ v, centred y v * centred y v) / 127) + eps :=
  add_pos_of_nonneg_of_pos (Real.sqrt_nonneg _) eps_pos

/-- The sum of a centred line's squares, over 127, is not negative. -/
theorem lineVar_nonneg (y : Fin 128 → ℝ) : 0 ≤ (∑ v, centred y v * centred y v) / 127 :=
  div_nonneg (Finset.sum_nonneg fun _ _ => mul_self_nonneg _) (by norm_num)

/-- A centred line over its deviation, in the extended reals. -/
theorem lineNorm_coe (y : Fin 128 → ℝ) (w : Fin 128) (d q : EReal) (hd : d = (centred y w : EReal))
    (hq : q = (((∑ v, centred y v * centred y v) / 127 : ℝ) : EReal)) :
    Idealize.ShloMosaic.Ideal.div d (Idealize.ShloMosaic.Ideal.sqrt q + (eps : EReal)) = (lineNorm y w : EReal) := by
  rw [hd, hq, sqrt_coe (lineVar_nonneg y), ← EReal.coe_add, div_coe (lineDev_pos y).ne', lineNorm]

/-- Recording `b` normalised by the statistics of subject `k`, and then along its last axis. -/
def normRec (s : Fin 1024 → BitVec 32) (k : BitVec 32) (x : Fin 1024 → Fin 4 → Fin 62 → Fin 128 → ℝ)
    (b : Fin 1024) (c : Fin 4) (h : Fin 62) : Fin 128 → ℝ :=
  lineNorm fun w => (x b c h w - mean s k fun b' => x b' c h w) / dev s k fun b' => x b' c h w

theorem sumOf_nonneg (s : Fin 1024 → BitVec 32) (k : BitVec 32) (a : Fin 1024 → ℝ) (h : ∀ b, 0 ≤ a b) : 0 ≤ sumOf s k a :=
  Finset.sum_nonneg fun b _ => by split_ifs; exacts [h b, le_rfl]

theorem var_nonneg (s : Fin 1024 → BitVec 32) (k : BitVec 32) (a : Fin 1024 → ℝ) : 0 ≤ var s k a :=
  div_nonneg (sumOf_nonneg s k _ fun _ => mul_self_nonneg _) (zero_le_one.trans (le_max_right _ _))

theorem dev_pos (s : Fin 1024 → BitVec 32) (k : BitVec 32) (a : Fin 1024 → ℝ) : 0 < dev s k a :=
  add_pos_of_nonneg_of_pos (Real.sqrt_nonneg _) eps_pos

/-- The sum over a subject's recordings sees no other recording. -/
theorem sumOf_congr (s : Fin 1024 → BitVec 32) (k : BitVec 32) (a a' : Fin 1024 → ℝ) (h : ∀ b, s b = k → a b = a' b) :
    sumOf s k a = sumOf s k a' :=
  Finset.sum_congr rfl fun b _ => by split_ifs with e; exacts [h b e, rfl]

theorem mean_congr (s : Fin 1024 → BitVec 32) (k : BitVec 32) (a a' : Fin 1024 → ℝ) (h : ∀ b, s b = k → a b = a' b) :
    mean s k a = mean s k a' := by rw [mean, mean, sumOf_congr s k a a' h]

theorem dev_congr (s : Fin 1024 → BitVec 32) (k : BitVec 32) (a a' : Fin 1024 → ℝ) (h : ∀ b, s b = k → a b = a' b) :
    dev s k a = dev s k a' := by
  rw [dev, dev, var, var, mean_congr s k a a' h, sumOf_congr s k _ _ fun b e => by rw [h b e]]

/-- A subject's normalised recordings depend on that subject's recordings alone. -/
theorem normRec_congr (s : Fin 1024 → BitVec 32) (k : BitVec 32) (x x' : Fin 1024 → Fin 4 → Fin 62 → Fin 128 → ℝ)
    (h : ∀ b, s b = k → x b = x' b) (b : Fin 1024) (hb : s b = k) (c : Fin 4) (e : Fin 62) :
    normRec s k x b c e = normRec s k x' b c e := by
  unfold normRec
  congr 1
  funext w
  rw [h b hb, mean_congr s k _ (fun b' => x' b' c e w) fun b' h' => by rw [h b' h'],
    dev_congr s k _ (fun b' => x' b' c e w) fun b' h' => by rw [h b' h']]

/-- A subject of a recording has a recording. -/
theorem count_pos (s : Fin 1024 → BitVec 32) (b : Fin 1024) : 0 < count s (s b) :=
  Finset.card_pos.mpr ⟨b, by simp⟩

theorem count_le (s : Fin 1024 → BitVec 32) (k : BitVec 32) : count s k ≤ 1024 :=
  (Finset.card_filter_le _ _).trans (by simp)

/-- The number of a subject's recordings is the sum of one over them. -/
theorem sumOf_one (s : Fin 1024 → BitVec 32) (k : BitVec 32) : sumOf s k (fun _ => 1) = (count s k : ℝ) := by
  rw [sumOf, count, Finset.sum_boole]

/-- The sum over a subject's recordings is their number times their mean. -/
theorem sumOf_eq_mul_mean (s : Fin 1024 → BitVec 32) (k : BitVec 32) (a : Fin 1024 → ℝ) :
    sumOf s k a = (count s k : ℝ) * mean s k a := by
  rcases Nat.eq_zero_or_pos (count s k) with h | h
  · rw [h, Nat.cast_zero, zero_mul, sumOf]
    refine Finset.sum_eq_zero fun b _ => if_neg fun e => ?_
    exact (e ▸ count_pos s b).ne' h
  · have h1 : (1 : ℝ) ≤ count s k := by exact_mod_cast h
    rw [mean, max_eq_left h1, mul_div_cancel₀ _ (by linarith)]

/-- The sum of the squared differences from the mean, by the sum of squares. -/
theorem sumOf_sq_diff (s : Fin 1024 → BitVec 32) (k : BitVec 32) (a : Fin 1024 → ℝ) :
    sumOf s k (fun b => (a b - mean s k a) * (a b - mean s k a))
      = sumOf s k (fun b => a b * a b) - (count s k : ℝ) * mean s k a * mean s k a := by
  have e : sumOf s k (fun b => (a b - mean s k a) * (a b - mean s k a))
      = sumOf s k (fun b => a b * a b) - 2 * mean s k a * sumOf s k a + mean s k a * mean s k a * sumOf s k (fun _ => 1) := by
    simp only [sumOf, Finset.mul_sum, ← Finset.sum_sub_distrib, ← Finset.sum_add_distrib]
    refine Finset.sum_congr rfl fun b _ => ?_
    split_ifs <;> ring
  rw [e, sumOf_one, sumOf_eq_mul_mean s k a]
  ring

/-- The variance's divisor, from the number of recordings itself. -/
theorem divisor_eq (n : ℕ) : max ((n : ℝ) - 1) 1 = max (max (n : ℝ) 1 - 1) 1 := by
  rcases Nat.eq_zero_or_pos n with rfl | h
  · norm_num
  · have h1 : (1 : ℝ) ≤ n := by exact_mod_cast h
    rw [max_eq_left h1]

/-- The variance by the sum of squares. -/
theorem var_eq (s : Fin 1024 → BitVec 32) (k : BitVec 32) (a : Fin 1024 → ℝ) :
    (sumOf s k (fun b => a b * a b) - (count s k : ℝ) * mean s k a * mean s k a) / max ((count s k : ℝ) - 1) 1 = var s k a := by
  rw [var, sumOf_sq_diff, divisor_eq]

/-- Recording `i` of block `t` of sixty-four recordings. -/
def pos (t : ℕ) (i : Fin 64) : Fin 1024 := ⟨(64 * t + i.val) % 1024, Nat.mod_lt _ (by decide)⟩

/-- A sum over the recordings is the sum of the sixteen blocks' sums. -/
theorem sum_blocks (f : Fin 1024 → ℝ) : ∑ t ∈ Finset.range 16, ∑ i : Fin 64, f (pos t i) = ∑ b, f b := by
  rw [Finset.sum_range, ← Fintype.sum_prod_type' fun (t : Fin 16) (i : Fin 64) => f (pos t i)]
  refine Fintype.sum_equiv (finProdFinEquiv (m := 16) (n := 64)) _ _ fun p => congrArg f (Fin.ext ?_)
  have h1 := p.1.isLt
  have h2 := p.2.isLt
  simp only [pos, finProdFinEquiv_apply_val]
  omega

end Cert.Proof

end
-- ==== Proof.KernelIdealHost.lean ====
/-
  The host's reshapes round the two kernels, at an index: what the kernels find, and the result from what they leave.
-/
module

public import proofs.«01_k».proof.Proof.Spec
public import proofs.«01_k».proof.Proof.KernelIdealSegments
public import Idealize.ShloMosaic.Lib.StableHlo.ReadAt
public import Idealize.ShloMosaic.Lib.Pointwise

@[expose] public section

noncomputable section

namespace Cert.Proof.KernelIdeal

open Cert.KernelIdeal Cert.KernelIdeal.Gen
open Idealize.ShloMosaic Idealize.ShloMosaic.TcCoe Idealize.ShloMosaic.Tactic

variable (m : (ℓ : Loc nD τ sig) → Buf (Elt Ideal) ℓ) (c : Dev nD)

/-- The words in blocks. -/
theorem words_at (t : Fin 16) (i : Fin 64) (h : t.val * 64 + i.val < 1024) :
    (V1 m c (Proc.devRef .tc main_v2) : IVec S16x64 32) (ix2 t i) = (m (c.tc.loc main_arg1) : IVec S1024 32) (ix1 ⟨t.val * 64 + i.val, h⟩) := by
  unfold V1
  after_reads_at

/-- The recordings, a line for each pair of the two middle axes. -/
theorem recs_at (b : Fin 1024) (r : Fin 248) (w : Fin 128) :
    (V1 m c (Proc.devRef .tc main_v1) : FVec Ideal S1024x248x128 .f32) (ix3 b r w)
      = (m (c.tc.loc main_arg0) : FVec Ideal S1024x4x62x128 .f32) (ix4 b ⟨r.val % 4, by omega⟩ ⟨r.val / 4, by omega⟩ w) := by
  unfold V1
  after_reads_at

variable (hT : Small (tabOf m))

/-- The result. -/
theorem out_at (b : Fin 1024) (e : Fin 4) (h : Fin 62) (w : Fin 128) :
    (V4 m (outs m hT) c (Proc.devRef .tc main_v6) : FVec Ideal S1024x4x62x128 .f32) (ix4 b e h w)
      = (V3 m (outs m hT) c (Proc.devRef .tc main_v4) : FVec Ideal S1024x248x128 .f32) (ix3 b ⟨h.val * 4 + e.val, by omega⟩ w) := by
  unfold V4
  after_reads_at

end Cert.Proof.KernelIdeal

end
-- ==== Proof.KernelIdealStatsValue.lean ====
/-
  What the statistics kernel stores, in real numbers: each subject's mean, and the reciprocal of its deviation.
-/
module

public import proofs.«01_k».proof.Proof.Spec
public import proofs.«01_k».proof.Proof.KernelIdealStatsRegion
public import Idealize.ShloMosaic.Lib.Pointwise

@[expose] public section

noncomputable section

namespace Cert.Proof.KernelIdeal

open Cert.KernelIdeal Cert.KernelIdeal.Gen
open Idealize.ShloMosaic Idealize.ShloMosaic.TcCoe Idealize.ShloMosaic.Tactic

variable {V : (c : Dev nD) → (b : Ref sig .tc) → Buf (Elt Ideal) ((c : Thread nD τ).loc b)} {c : Dev nD}
  {s : Fin 1024 → BitVec 32} {a : Fin 1024 → Fin 248 → Fin 128 → ℝ}

/-- The blocks the sixteen points stage: the words `s`, and recordings that are reals. -/
structure Blocks (V : (c : Dev nD) → (b : Ref sig .tc) → Buf (Elt Ideal) ((c : Thread nD τ).loc b)) (c : Dev nD)
    (s : Fin 1024 → BitVec 32) (a : Fin 1024 → Fin 248 → Fin 128 → ℝ) : Prop where
  words : ∀ t < 16, ∀ i, wordsOf V c (gridPt t) (ix2 0 i) = s (pos t i)
  recs : ∀ t < 16, ∀ i r w, (recsOf V c (gridPt t) (ix3 i r w) : EReal) = (a (pos t i) r w : EReal)

/-- A column of the sums: row `r`, lane `w` of a recording. -/
def col (r : Fin 248) (w : Fin 128) : Fin 31744 := ⟨r.val * 128 + w.val, by omega⟩

/-- A word's bit among the subjects. -/
theorem onehot_at (v : Vec Ideal S1x64 .i32) (k : Fin 16) (i : Fin 64) :
    (k0_pay1 v (ix2 k i) : EReal) = ((if v (ix2 0 i) = BitVec.ofNat 32 k.val then 1 else 0 : ℝ) : EReal) := by
  unfold k0_pay1
  pointwise
  change (((BitVec.setWidth 32 (BitVec.ofBool (BitVec.ofNat 32 k.val == v (ix2 0 i)))).toInt : ℝ) : EReal) = _
  by_cases h : v (ix2 0 i) = BitVec.ofNat 32 k.val
  · rw [if_pos h, h, beq_self_eq_true, show (BitVec.setWidth 32 (BitVec.ofBool true)).toInt = 1 by decide, Int.cast_one]
  · rw [if_neg h, beq_false_of_ne (Ne.symm h), show (BitVec.setWidth 32 (BitVec.ofBool false)).toInt = 0 by decide, Int.cast_zero]

/-- A recording's line among the columns. -/
theorem flat_at (v : Vec Ideal S64x248x128 .f32) (i : Fin 64) (r : Fin 248) (w : Fin 128) :
    (k0_pay2 v (ix2 i (col r w)) : EReal) = v (ix3 i r w) := by
  unfold k0_pay2
  pointwise
  have h1 : (⟨(col r w).val / 128, by have := (col r w).isLt; omega⟩ : Fin 248) = r := Fin.ext (by simp only [col]; omega)
  have h2 : (⟨(col r w).val % 128, by omega⟩ : Fin 128) = w := Fin.ext (by simp only [col]; omega)
  rw [h1, h2]

/-- A block's share of a sum over subject `k`'s recordings. -/
def part (s : Fin 1024 → BitVec 32) (k : BitVec 32) (f : Fin 1024 → ℝ) (t : ℕ) : ℝ :=
  ∑ i : Fin 64, if s (pos t i) = k then f (pos t i) else 0

/-- The blocks' shares together. -/
theorem sum_part (k : BitVec 32) (f : Fin 1024 → ℝ) : ∑ t ∈ Finset.range 16, part s k f t = sumOf s k f :=
  sum_blocks fun b => if s b = k then f b else 0

/-- A product of the block's bits with reals is the block's share. -/
theorem share (B : Blocks V c s a) (k : Fin 16) (t : ℕ) (ht : t < 16) (f : Fin 1024 → ℝ) (g : Fin 64 → EReal)
    (hg : ∀ i, g i = (f (pos t i) : EReal)) :
    ∑ i, (k0_pay1 (wordsOf V c (gridPt t)) (ix2 k i) : EReal) * g i = ((part s (BitVec.ofNat 32 k.val) f t : ℝ) : EReal) := by
  rw [part, coe_sum]
  refine Finset.sum_congr rfl fun i _ => ?_
  rw [onehot_at, B.words t ht, hg, ← EReal.coe_mul]
  split_ifs <;> simp

theorem psum_at (B : Blocks V c s a) (k : Fin 16) (t : ℕ) (ht : t < 16) (r : Fin 248) (w : Fin 128) :
    (k0_pay3 (wordsOf V c (gridPt t)) (recsOf V c (gridPt t)) (ix2 k (col r w)) : EReal)
      = ((part s (BitVec.ofNat 32 k.val) (fun b => a b r w) t : ℝ) : EReal) := by
  unfold k0_pay3
  pointwise
  exact share B k t ht _ _ fun i => by rw [flat_at, B.recs t ht]

theorem psq_at (B : Blocks V c s a) (k : Fin 16) (t : ℕ) (ht : t < 16) (r : Fin 248) (w : Fin 128) :
    (k0_pay4 (wordsOf V c (gridPt t)) (recsOf V c (gridPt t)) (ix2 k (col r w)) : EReal)
      = ((part s (BitVec.ofNat 32 k.val) (fun b => a b r w * a b r w) t : ℝ) : EReal) := by
  unfold k0_pay4
  pointwise
  exact share B k t ht _ _ fun i => by rw [flat_at, B.recs t ht, EReal.coe_mul]

/-- The sums after point `n`: the shares of the blocks so far. -/
theorem sumAt_at (B : Blocks V c s a) (k : Fin 16) (r : Fin 248) (w : Fin 128) : ∀ n < 16,
    (sumAt V c n (ix2 k (col r w)) : EReal)
      = ((∑ t ∈ Finset.range (n + 1), part s (BitVec.ofNat 32 k.val) (fun b => a b r w) t : ℝ) : EReal)
  | 0, h => by
    unfold sumAt k0_pay5
    pointwise
    rw [psum_at B k 0 h, Finset.sum_range_one]
  | n + 1, h => by
    unfold sumAt k0_pay7
    pointwise
    rw [psum_at B k _ h, sumAt_at B k r w n (by omega), Finset.sum_range_succ _ (n + 1), EReal.coe_add]

/-- The sums of squares after point `n`. -/
theorem sqAt_at (B : Blocks V c s a) (k : Fin 16) (r : Fin 248) (w : Fin 128) : ∀ n < 16,
    (sqAt V c n (ix2 k (col r w)) : EReal)
      = ((∑ t ∈ Finset.range (n + 1), part s (BitVec.ofNat 32 k.val) (fun b => a b r w * a b r w) t : ℝ) : EReal)
  | 0, h => by
    unfold sqAt k0_pay6
    pointwise
    rw [psq_at B k 0 h, Finset.sum_range_one]
  | n + 1, h => by
    unfold sqAt k0_pay8
    pointwise
    rw [psq_at B k _ h, sqAt_at B k r w n (by omega), Finset.sum_range_succ _ (n + 1), EReal.coe_add]

/-- The counts after point `n`, lane by lane. -/
theorem cntAt_at (B : Blocks V c s a) (k : Fin 16) (i : Fin 64) : ∀ n < 16,
    (cntAt V c n (ix2 k i) : EReal)
      = ((∑ t ∈ Finset.range (n + 1), (if s (pos t i) = BitVec.ofNat 32 k.val then 1 else 0) : ℝ) : EReal)
  | 0, h => by
    unfold cntAt k0_pay9
    pointwise
    rw [onehot_at, B.words 0 h, Finset.sum_range_one]
  | n + 1, h => by
    unfold cntAt k0_pay10
    pointwise
    rw [onehot_at, B.words _ h, cntAt_at B k i n (by omega), Finset.sum_range_succ _ (n + 1), EReal.coe_add]

/-- The number of a subject's recordings, as the last point adds it up. -/
theorem total_at (B : Blocks V c s a) (k : Fin 16) (q : Fin 1) :
    (k0_pay11 (cntAt V c 15) (ix2 k q) : EReal) = ((count s (BitVec.ofNat 32 k.val) : ℝ) : EReal) := by
  unfold k0_pay11
  pointwise
  rw [← sumOf_one, ← sum_part]
  unfold part
  rw [Finset.sum_comm, coe_sum]
  exact Finset.sum_congr rfl fun i _ => cntAt_at B k i 15 (by omega)

/-- The subject's mean. -/
theorem meanCol_at (B : Blocks V c s a) (k : Fin 16) (r : Fin 248) (w : Fin 128) :
    (k0_pay12 (cntAt V c 15) (sumAt V c 15) (ix2 k (col r w)) : EReal)
      = ((mean s (BitVec.ofNat 32 k.val) fun b => a b r w : ℝ) : EReal) := by
  unfold k0_pay12
  pointwise
  rw [total_at B, sumAt_at B k r w 15 (by omega), sum_part, ← EReal.coe_one, max_coe,
    div_coe (zero_lt_one.trans_le (le_max_right _ _)).ne']
  rfl

theorem meanOut_at (B : Blocks V c s a) (k : Fin 16) (r : Fin 248) (w : Fin 128) :
    (meanOut V c (ix3 k r w) : EReal) = ((mean s (BitVec.ofNat 32 k.val) fun b => a b r w : ℝ) : EReal) := by
  unfold meanOut k0_pay13
  pointwise
  exact meanCol_at B k r w

/-- The reciprocal of the subject's deviation. -/
theorem recipOut_at (B : Blocks V c s a) (k : Fin 16) (r : Fin 248) (w : Fin 128) :
    (recipOut V c (ix3 k r w) : EReal) = ((1 / dev s (BitVec.ofNat 32 k.val) fun b => a b r w : ℝ) : EReal) := by
  unfold recipOut k0_pay14
  pointwise
  change Ideal.div 1 (Ideal.sqrt (max (Ideal.div (sqAt V c 15 (ix2 k (col r w)) - k0_pay11 (cntAt V c 15) (ix2 k 0)
    * k0_pay12 (cntAt V c 15) (sumAt V c 15) (ix2 k (col r w)) * k0_pay12 (cntAt V c 15) (sumAt V c 15) (ix2 k (col r w)))
    (max (k0_pay11 (cntAt V c 15) (ix2 k 0) - 1) 1)) 0) + Ideal.ofBits .f32 0x3727C5AC#32) = _
  rw [total_at B, meanCol_at B, sqAt_at B k r w 15 (by omega), sum_part, ← EReal.coe_one, ← EReal.coe_mul, ← EReal.coe_mul,
    ← EReal.coe_sub, ← EReal.coe_sub, max_coe, div_coe (zero_lt_one.trans_le (le_max_right _ _)).ne', var_eq, ← EReal.coe_zero,
    max_coe, max_eq_left (var_nonneg s _ _), sqrt_coe (var_nonneg s _ _), ofBits_eps, ← EReal.coe_add]
  exact div_coe (dev_pos s _ _).ne'

end Cert.Proof.KernelIdeal

end
-- ==== Proof.KernelIdealNormValue.lean ====
/-
  What the normalisation kernel stores for a recording, in real numbers.
-/
module

public import proofs.«01_k».proof.Proof.Spec
public import proofs.«01_k».proof.Proof.KernelIdealNormRegion
public import Idealize.ShloMosaic.Lib.Pointwise

@[expose] public section

noncomputable section

namespace Cert.Proof.KernelIdeal

open Cert.KernelIdeal Cert.KernelIdeal.Gen
open Idealize.ShloMosaic Idealize.ShloMosaic.TcCoe Idealize.ShloMosaic.Tactic

/-- The named constant is the reciprocal of 127. -/
theorem inv_wm1 : (Named.named (F := Ideal) κ "inv_wm1" (φ := .f32) 0x3C010204#32 : EReal) = ((127⁻¹ : ℝ) : EReal) := by
  exact IdealRules.named_const.ideal_named_scalar κ "inv_wm1" _ _ rfl

/-- A line of a recording, less its mean, times its subject's reciprocal deviation, normalised. -/
theorem normPay_at (x m s : Vec Ideal S1x248x128 .f32) (r : Fin 248) (X μ δ : Fin 128 → ℝ)
    (hx : ∀ w, (x (ix3 0 r w) : EReal) = (X w : EReal)) (hm : ∀ w, (m (ix3 0 r w) : EReal) = (μ w : EReal))
    (hs : ∀ w, (s (ix3 0 r w) : EReal) = ((1 / δ w : ℝ) : EReal)) (q : Fin 1) (w : Fin 128) :
    (normPay x m s (ix3 q r w) : EReal) = (lineNorm (fun w => (X w - μ w) / δ w) w : EReal) := by
  unfold normPay k1_pay2
  pointwise
  have hz : ∀ w, ((x (ix3 0 r w) : EReal) - m (ix3 0 r w)) * s (ix3 0 r w) = (((X w - μ w) / δ w : ℝ) : EReal) := fun w => by
    rw [hx, hm, hs, ← EReal.coe_sub, ← EReal.coe_mul, mul_one_div]
  have hd : ∀ w, ((x (ix3 0 r w) : EReal) - m (ix3 0 r w)) * s (ix3 0 r w)
      - Ideal.div (∑ v, ((x (ix3 0 r v) : EReal) - m (ix3 0 r v)) * s (ix3 0 r v)) (Ideal.ofBits .f32 0x43000000#32)
      = (centred (fun w => (X w - μ w) / δ w) w : EReal) := fun w => by
    simp only [hz]
    rw [ofBits_128, ← coe_sum, div_coe (by norm_num), ← EReal.coe_sub]
    rfl
  rw [ofBits_eps]
  refine lineNorm_coe _ _ _ _ (hd w) ?_
  rw [div_eq_mul_inv, EReal.coe_mul, coe_sum, ← inv_wm1]
  congr 1
  exact Finset.sum_congr rfl fun v _ => by rw [EReal.coe_mul, ← hd v]

end Cert.Proof.KernelIdeal

end
-- ==== Proof.KernelIdealArrays.lean ====
/-
  The blocks the two kernels stage, and the arrays they leave, at an index.
-/
module

public import proofs.«01_k».proof.Proof.KernelIdealHost
public import proofs.«01_k».proof.Proof.KernelIdealStatsValue
public import proofs.«01_k».proof.Proof.KernelIdealNormValue
public import Idealize.ShloMosaic.Lib.Pipeline.ValueKit

@[expose] public section

noncomputable section

namespace Cert.Proof.KernelIdeal

open Cert.KernelIdeal Cert.KernelIdeal.Gen
open Idealize.ShloMosaic Idealize.ShloMosaic.TcCoe Idealize.ShloMosaic.Tactic

variable (V : (c : Dev nD) → (b : Ref sig .tc) → Buf (Elt Ideal) ((c : Thread nD τ).loc b)) (c : Dev nD)

theorem index0_0 : ∀ t : Fin cfg0.N, win0_0.index t = ![0, 0] :=
  (by decide +kernel : ∀ t : Fin grid0.N, win0_0.index t = ![0, 0])
theorem index0_1 : ∀ t : Fin cfg0.N, win0_1.index t = ![t.val, 0, 0] :=
  (by decide +kernel : ∀ t : Fin grid0.N, win0_1.index t = ![t.val, 0, 0])
theorem off1_eq : ∀ t : Fin cfg0.N, k0_off1 (grid0.coords t) = ![t.val, 0] :=
  (by decide +kernel : ∀ t : Fin grid0.N, k0_off1 (grid0.coords t) = ![t.val, 0])

/-- A block's words in the array of words. -/
theorem wordsOf_at (t : Fin cfg0.N) (ht : t.val < 16) (i : Fin 64) :
    wordsOf V c t (ix2 0 i) = (V c main_v2 : IVec S16x64 32) (ix2 ⟨t.val, ht⟩ i) := by
  unfold wordsOf allWords
  refine congrArg (V c main_v2 : IVec S16x64 32) ?_
  funext a
  fin_cases a
  · apply Fin.ext
    blk_simp [index0_0]
    change k0_off1 (grid0.coords t) 0 + 1 * 0 = t.val
    rw [off1_eq]
    rfl
  · apply Fin.ext
    blk_simp [index0_0]
    change k0_off1 (grid0.coords t) 1 + 1 * i.val = i.val
    rw [off1_eq]
    change 0 + 1 * i.val = i.val
    omega

/-- A block's recordings in the array of recordings. -/
theorem recsOf_at (t : Fin cfg0.N) (i : Fin 64) (r : Fin 248) (w : Fin 128) (h : t.val * 64 + i.val < 1024) :
    recsOf V c t (ix3 i r w) = (V c main_v1 : FVec Ideal S1024x248x128 .f32) (ix3 ⟨t.val * 64 + i.val, h⟩ r w) := by
  unfold recsOf
  refine congrArg (V c main_v1 : FVec Ideal S1024x248x128 .f32) ?_
  blk_ext [index0_1]

variable (m : (ℓ : Loc nD τ sig) → Buf (Elt Ideal) ℓ)

/-- The mean's array after the statistics kernel is what the last point stored, -/
theorem meanArr_eq : meanArr m c = meanOut (inA m) c := by
  unfold meanArr
  refine Pipeline.Dat.arrAt_eq_of_after_last _ 2 (gridPt 15) (by decide +kernel) _ fun j => ?_
  rfl

/-- and so is the reciprocal deviation's. -/
theorem recipArr_eq : recipArr m c = recipOut (inA m) c := by
  unfold recipArr
  refine Pipeline.Dat.arrAt_eq_of_after_last _ 3 (gridPt 15) (by decide +kernel) _ fun j => ?_
  rfl

variable (T : Vec Ideal S1024 .i32) (hT : Small T)

/-- A block's place along an axis, once the block's number there is known. -/
theorem place_of {a b : ℕ} (e : a = b) {n q z : ℕ} (h : b * n + q = z) : a * n + q = z := by rw [e]; exact h

/-- The block each window of the normalisation kernel stages at a point. -/
theorem index1_0 (t : Fin grid1.N) : (pcfg1.win (adm1 T) 0).index t = ![t.val, 0, 0] :=
  (by decide +kernel : ∀ t : Fin grid1.N, cc1_transform_0 (grid1.coords t) = ![t.val, 0, 0]) t
theorem index1_1 (t : Fin grid1.N) : (pcfg1.win (adm1 T) 1).index t = ![0, 0, 0] :=
  (by decide +kernel : ∀ t : Fin grid1.N, cc1_transform_1 (grid1.coords t) = ![0, 0, 0]) t
theorem index1_2 (t : Fin grid1.N) : (pcfg1.win (adm1 T) 2).index t = ![0, 0, 0] :=
  (by decide +kernel : ∀ t : Fin grid1.N, cc1_transform_2 (grid1.coords t) = ![0, 0, 0]) t
theorem index1_3 (t : Fin grid1.N) : (pcfg1.win (adm1 T) 3).index t = ![t.val, 0, 0] :=
  (by decide +kernel : ∀ t : Fin grid1.N, cc1_transform_3 (grid1.coords t) = ![t.val, 0, 0]) t

theorem recs1_at (t : Fin grid1.N) (i : Fin 64) (r : Fin 248) (w : Fin 128) (h : t.val * 64 + i.val < 1024) :
    recs1 V T c t (ix3 i r w) = (V c main_v1 : FVec Ideal S1024x248x128 .f32) (ix3 ⟨t.val * 64 + i.val, h⟩ r w) := by
  unfold recs1
  refine congrArg (V c main_v1 : FVec Ideal S1024x248x128 .f32) ?_
  blk_ext []
  · exact place_of (congrFun (index1_0 T t) 0) rfl
  · exact place_of (congrFun (index1_0 T t) 1) (by simp)
  · exact place_of (congrFun (index1_0 T t) 2) (by simp)

theorem means1_at (t : Fin grid1.N) (k : Fin 16) (r : Fin 248) (w : Fin 128) :
    means1 V T c t (ix3 k r w) = (V c main_v3_0 : FVec Ideal S16x248x128 .f32) (ix3 k r w) := by
  unfold means1
  refine congrArg (V c main_v3_0 : FVec Ideal S16x248x128 .f32) ?_
  blk_ext []
  · exact place_of (congrFun (index1_1 T t) 0) (by simp)
  · exact place_of (congrFun (index1_1 T t) 1) (by simp)
  · exact place_of (congrFun (index1_1 T t) 2) (by simp)

theorem recips1_at (t : Fin grid1.N) (k : Fin 16) (r : Fin 248) (w : Fin 128) :
    recips1 V T c t (ix3 k r w) = (V c main_v3_1 : FVec Ideal S16x248x128 .f32) (ix3 k r w) := by
  unfold recips1
  refine congrArg (V c main_v3_1 : FVec Ideal S16x248x128 .f32) ?_
  blk_ext []
  · exact place_of (congrFun (index1_2 T t) 0) (by simp)
  · exact place_of (congrFun (index1_2 T t) 1) (by simp)
  · exact place_of (congrFun (index1_2 T t) 2) (by simp)

/-- Every point writes its block back, -/
theorem flush1_3 (t : Fin grid1.N) : ((cfg1 (adm1 T)).win 3).flush t = true :=
  (by decide +kernel : ∀ t : Fin grid1.N, ((cfg1 (F := Ideal) (adm1 fun _ => (0#32 : BitVec 32))).win 3).flush t = true) t

/-- and no two points write the same block. -/
theorem disjoint1_3 : ∀ t t' : Fin (cfg1 (adm1 T)).N, ((cfg1 (adm1 T)).win 3).flush t = true → ((cfg1 (adm1 T)).win 3).flush t' = true → t ≠ t' →
    Disjoint (((cfg1 (adm1 T)).win 3).blk t).view.set (((cfg1 (adm1 T)).win 3).blk t').view.set :=
  Pipeline.Window.hdisj_of_index_inj _ fun t t' _ _ e => by
    have e0 := congrFun ((index1_3 T t).symm.trans (e.trans (index1_3 T t'))) 0
    exact Fin.ext e0

/-- The normalised array, at the recording `i` of block `t`. -/
theorem norm_at (t : Fin grid1.N) (i : Fin 64) (r : Fin 248) (w : Fin 128) (h : t.val * 64 + i.val < 1024) :
    ((dat1 V T hT c).arrAt 3 (cfg1 (adm1 T)).N : FVec Ideal S1024x248x128 .f32) (ix3 ⟨t.val * 64 + i.val, h⟩ r w)
      = norms1 V T hT c t (ix3 i r w) := by
  have e := (dat1 V T hT c).arrAt_emb_eq_flushed 3 (disjoint1_3 T) t (flush1_3 T t) (ix3 i r w)
  have ei : (((cfg1 (adm1 T)).win 3).blk t).view.emb (ix3 i r w) = (ix3 ⟨t.val * 64 + i.val, h⟩ r w : S1024x248x128.Idx) := by
    blk_ext []
    · exact place_of (congrFun (index1_3 T t) 0) rfl
    · exact place_of (congrFun (index1_3 T t) 1) (by simp)
    · exact place_of (congrFun (index1_3 T t) 2) (by simp)
  rw [ei] at e
  exact e

end Cert.Proof.KernelIdeal

end
-- ==== Proof.KernelIdealValue.lean ====
/-
  The idealised kernel's result at an index: each recording less its subject's mean, over its subject's deviation, and the
  line then normalised by its own mean and deviation (`result_at`).
-/
module

public import proofs.«01_k».proof.Proof.KernelIdealArrays

@[expose] public section

noncomputable section

namespace Cert.Proof.KernelIdeal

open Cert.KernelIdeal Cert.KernelIdeal.Gen
open Idealize.ShloMosaic Idealize.ShloMosaic.TcCoe Idealize.ShloMosaic.Tactic

variable (V : (c : Dev nD) → (b : Ref sig .tc) → Buf (Elt Ideal) ((c : Thread nD τ).loc b)) (c : Dev nD)

/-- The word the normalisation kernel reads for recording `k` of a block, in the table. -/
theorem wordAt_eq (T : Vec Ideal S1024 .i32) (i : grid1.Coords) (k : ℕ) (hk : k < 64) (h : 64 * (i 0).val + k < 1024) :
    wordAt (F := Ideal) c T i k hk = T (ix1 ⟨64 * (i 0).val + k, h⟩) := by
  refine congrArg T ?_
  funext a
  fin_cases a
  apply Fin.ext
  change wordOff i k 0 + 1 * 0 = 64 * (i 0).val + k
  rw [wordOff_eq i k hk]
  omega

theorem coords1 : ∀ t : Fin grid1.N, ((grid1.coords t) 0).val = t.val := by decide +kernel

/-- A block the normalisation kernel leaves, from the line and the statistics it is made of. -/
theorem normAt_at (T : Vec Ideal S1024 .i32) (hT : Small T) (t : Fin grid1.N) (X : Vec Ideal S64x248x128 .f32)
    (M R : Vec Ideal S16x248x128 .f32) (i : Fin 64) (r : Fin 248) (w : Fin 128) (n : Fin 1024) (hn : n.val = 64 * t.val + i.val)
    (a : Fin 128 → ℝ) (μ δ : Fin 16 → Fin 128 → ℝ) (hX : ∀ w, (X (ix3 i r w) : EReal) = (a w : EReal))
    (hM : ∀ k w, (M (ix3 k r w) : EReal) = (μ k w : EReal)) (hR : ∀ k w, (R (ix3 k r w) : EReal) = ((1 / δ k w : ℝ) : EReal)) :
    (normAt T hT c (grid1.coords t) X M R (ix3 i r w) : EReal)
      = (lineNorm (fun w => (a w - μ ⟨(T (ix1 n)).toNat, hT _⟩ w) / δ ⟨(T (ix1 n)).toNat, hT _⟩ w) w : EReal) := by
  have hw : wordAt (F := Ideal) c T (grid1.coords t) i.val i.isLt = T (ix1 n) := by
    rw [wordAt_eq c T _ _ _ (by rw [coords1, ← hn]; exact n.isLt)]
    refine congrArg (fun n => T (ix1 n)) (Fin.ext ?_)
    show 64 * ((grid1.coords t) 0).val + i.val = n.val
    rw [coords1, hn]
  have ho : ∀ v : BitVec 32, statOff v = ![v.toNat, 0, 0] := fun v => rfl
  unfold normAt
  refine (congrArg (normPay _ _ _) (?_ : inRow (ix3 i r w) = ix3 0 r w)).trans
    (normPay_at _ _ _ r a (μ ⟨(T (ix1 n)).toNat, hT _⟩) (δ ⟨(T (ix1 n)).toNat, hT _⟩) (fun w => ?_) (fun w => ?_) (fun w => ?_) 0 w)
  · funext a; fin_cases a <;> rfl
  · refine Eq.trans (congrArg X ?_) (hX w)
    funext a; fin_cases a <;> apply Fin.ext
    · show i.val + 1 * 0 = i.val; omega
    · show 0 + 1 * r.val = r.val; omega
    · show 0 + 1 * w.val = w.val; omega
  · refine Eq.trans (congrArg M ?_) (hM ⟨(T (ix1 n)).toNat, hT _⟩ w)
    funext a; fin_cases a <;> apply Fin.ext
    · show (wordAt (F := Ideal) c T (grid1.coords t) i.val i.isLt).toNat + 1 * 0 = (T (ix1 n)).toNat
      rw [hw]; omega
    · show 0 + 1 * r.val = r.val; omega
    · show 0 + 1 * w.val = w.val; omega
  · refine Eq.trans (congrArg R ?_) (hR ⟨(T (ix1 n)).toNat, hT _⟩ w)
    funext a; fin_cases a <;> apply Fin.ext
    · show (wordAt (F := Ideal) c T (grid1.coords t) i.val i.isLt).toNat + 1 * 0 = (T (ix1 n)).toNat
      rw [hw]; omega
    · show 0 + 1 * r.val = r.val; omega
    · show 0 + 1 * w.val = w.val; omega

variable (m : (ℓ : Loc nD τ sig) → Buf (Elt Ideal) ℓ) (s : Fin 1024 → BitVec 32)
  (x : Fin 1024 → Fin 4 → Fin 62 → Fin 128 → ℝ)

/-- A recording as a line for each pair of its two middle axes. -/
def lines (b : Fin 1024) (r : Fin 248) (w : Fin 128) : ℝ := x b ⟨r.val % 4, by omega⟩ ⟨r.val / 4, by omega⟩ w

variable (hs : ∀ b, (m (c.tc.loc main_arg1) : IVec S1024 32) (ix1 b) = s b)
  (hx : ∀ b e h w, ((m (c.tc.loc main_arg0) : FVec Ideal S1024x4x62x128 .f32) (ix4 b e h w) : EReal) = (x b e h w : EReal))

include hs hx in
/-- The blocks the statistics kernel finds are the arguments'. -/
theorem blocks : Blocks (inA m) c s (lines x) where
  words t ht i := by
    have hv : (gridPt t).val = t := Nat.mod_eq_of_lt ht
    rw [wordsOf_at (inA m) c (gridPt t) (hv.trans_lt ht) i]
    refine (words_at m c ⟨(gridPt t).val, hv.trans_lt ht⟩ i (by show (gridPt t).val * 64 + i.val < 1024; omega)).trans ((hs _).trans ?_)
    refine congrArg s (Fin.ext ?_)
    show (gridPt t).val * 64 + i.val = (64 * t + i.val) % 1024
    omega
  recs t ht i r w := by
    have hv : (gridPt t).val = t := Nat.mod_eq_of_lt ht
    have hb : (gridPt t).val * 64 + i.val < 1024 := by omega
    rw [recsOf_at (inA m) c (gridPt t) i r w hb]
    refine (congrArg (fun z : Ideal .f32 => (z : EReal)) (recs_at m c ⟨_, hb⟩ r w)).trans ((hx _ _ _ _).trans ?_)
    have hp : (⟨(gridPt t).val * 64 + i.val, hb⟩ : Fin 1024) = pos t i := Fin.ext (by
      show (gridPt t).val * 64 + i.val = (64 * t + i.val) % 1024
      omega)
    rw [hp]
    rfl

variable (hT : Small (tabOf m))

include hs hx in
/-- The result at an index. -/
theorem result_at (b : Fin 1024) (e : Fin 4) (h : Fin 62) (w : Fin 128) :
    ((V4 m (outs m hT) c (Proc.devRef .tc main_v6) : FVec Ideal S1024x4x62x128 .f32) (ix4 b e h w) : EReal)
      = (normRec s (s b) x b e h w : EReal) := by
  have hc : c = 0 := dev_eq c
  have hr : h.val * 4 + e.val < 248 := by omega
  have ht : b.val / 64 < 16 := by omega
  have hi : b.val % 64 < 64 := by omega
  have hb : b.val / 64 * 64 + b.val % 64 < 1024 := by omega
  have hbe : (⟨b.val / 64 * 64 + b.val % 64, hb⟩ : Fin 1024) = b := Fin.ext (by show b.val / 64 * 64 + b.val % 64 = b.val; omega)
  have B := blocks c m s x hs hx
  let t : Fin grid1.N := ⟨b.val / 64, ht⟩
  have hword : tabOf m (ix1 b) = s b := by rw [← hs b, hc]; rfl
  have hk : BitVec.ofNat 32 (tabOf m (ix1 b)).toNat = s b := by
    rw [BitVec.ofNat_toNat, hword]; exact BitVec.setWidth_eq _
  have hv1 : (inB m c main_v1 : FVec Ideal S1024x248x128 .f32) = V1 m c (Proc.devRef .tc main_v1) := V2_of m (outsA m) c main_v1 (by decide)
  have hm1 : (inB m c main_v3_0 : FVec Ideal S16x248x128 .f32) = meanOut (inA m) c := (V2_mean m c).trans (meanArr_eq c m)
  have hr1 : (inB m c main_v3_1 : FVec Ideal S16x248x128 .f32) = recipOut (inA m) c := (V2_recip m c).trans (recipArr_eq c m)
  rw [out_at m c hT b e h w, V3_norm]
  unfold normArr
  have en := norm_at (inB m) c (tabOf m) hT t ⟨b.val % 64, hi⟩ ⟨h.val * 4 + e.val, hr⟩ w hb
  rw [hbe] at en
  refine (congrArg (fun z : Ideal .f32 => (z : EReal)) en).trans ?_
  refine (normAt_at c (tabOf m) hT t _ _ _ ⟨b.val % 64, hi⟩ ⟨h.val * 4 + e.val, hr⟩ w b (by show b.val = 64 * (b.val / 64) + b.val % 64; omega)
    (fun w => lines x b ⟨h.val * 4 + e.val, hr⟩ w)
    (fun k w => mean s (BitVec.ofNat 32 k.val) fun b => lines x b ⟨h.val * 4 + e.val, hr⟩ w)
    (fun k w => dev s (BitVec.ofNat 32 k.val) fun b => lines x b ⟨h.val * 4 + e.val, hr⟩ w)
    (fun w => ?_) (fun k w => ?_) (fun k w => ?_)).trans ?_
  · rw [recs1_at (inB m) c (tabOf m) t _ _ _ hb, hv1, hbe, recs_at]
    exact hx _ _ _ _
  · rw [means1_at (inB m) c (tabOf m) t, hm1]
    exact meanOut_at B k _ w
  · rw [recips1_at (inB m) c (tabOf m) t, hr1]
    exact recipOut_at B k _ w
  · have hl : ∀ b w, lines x b ⟨h.val * 4 + e.val, hr⟩ w = x b e h w := fun b w => by
      have h1 : (⟨(h.val * 4 + e.val) % 4, by omega⟩ : Fin 4) = e := Fin.ext (by show (h.val * 4 + e.val) % 4 = e.val; omega)
      have h2 : (⟨(h.val * 4 + e.val) / 4, by omega⟩ : Fin 62) = h := Fin.ext (by show (h.val * 4 + e.val) / 4 = h.val; omega)
      show x b ⟨(h.val * 4 + e.val) % 4, _⟩ ⟨(h.val * 4 + e.val) / 4, _⟩ w = _
      rw [h1, h2]
    simp only [hk, hl]
    rfl

end Cert.Proof.KernelIdeal

end
-- ==== Proof.ReferenceStep.lean ====
/-
  One trip of the reference's loop, in real numbers: at subject `k` it normalises that subject's recordings and keeps the
  others.
-/
module

public import proofs.«01_k».proof.Proof.Spec
public import proofs.«01_k».proof.Proof.Gen.ReferenceIdeal.Run
public import Idealize.ShloMosaic.Lib.Pointwise
public import Idealize.ShloMosaic.Lib.IndicatorCount
public import Idealize.ShloMosaic.Lib.Tactic.CleanTypes

@[expose] public section

noncomputable section

namespace Cert.Proof.Reference

open Cert.ReferenceIdeal Cert.ReferenceIdeal.Gen Cert.ReferenceIdeal.Value
open Idealize.ShloMosaic Idealize.ShloMosaic.TcCoe Idealize.ShloMosaic.Tactic
open Idealize.ShloMosaic.StableHlo

/-- What the loop carries at subject `k`: the words `s`, the counter `k`, and data that are reals. -/
structure Carries (V : Valuation τ sig (Elt Ideal)) (s : Fin 1024 → BitVec 32) (k : BitVec 32)
    (x : Fin 1024 → Fin 4 → Fin 62 → Fin 128 → ℝ) : Prop where
  words : ∀ b, (V (Proc.devRef .tc main_v0_0) : IVec S1024 32) (ix1 b) = s b
  counter : (V (Proc.devRef .tc main_v0_2) : IVec S_ 32) ix0 = k
  data : ∀ b c h w, ((V (Proc.devRef .tc main_v0_3) : FVec Ideal S1024x4x62x128 .f32) (ix4 b c h w) : EReal) = (x b c h w : EReal)

variable {V : Valuation τ sig (Elt Ideal)} {s : Fin 1024 → BitVec 32} {k : BitVec 32}
  {x : Fin 1024 → Fin 4 → Fin 62 → Fin 128 → ℝ}

/-- A bit that says whether a recording is the subject's. -/
theorem ofBool_beq (a b : BitVec 32) : BitVec.ofBool (a == b) = if a = b then 1#1 else 0#1 := by
  by_cases h : a = b
  · simp [h]
  · rw [if_neg h, beq_false_of_ne h]; rfl

/-- The mask of the subject's recordings. -/
theorem mask_at (C : Carries V s k x) (b : Fin 1024) : res_main_while0b_v4 V (ix1 b) = if s b = k then 1#1 else 0#1 := by
  unfold res_main_while0b_v4
  pointwise
  rw [← ofBool_beq, ← C.words b, ← C.counter]
  rfl

/-- The number of the subject's recordings, as a word. -/
theorem count_at (C : Carries V s k x) (j : S_.Idx) : res_main_while0b_v6 V j = BitVec.ofNat 32 (count s k) := by
  unfold res_main_while0b_v6
  clean_types
  pointwise
  rw [IndicatorCount.fold_addi_setWidth_eq_card, count]
  congr 2
  ext b
  simp only [Finset.mem_filter, Finset.mem_univ, true_and]
  rw [mask_at C]
  by_cases h : s b = k <;> simp [h]

/-- A small number as a signed word. -/
theorem toInt_small (n : ℕ) (h : n ≤ 1024) : (BitVec.ofNat 32 n).toInt = n := by
  rw [BitVec.toInt_eq_toNat_of_lt (by rw [BitVec.toNat_ofNat]; omega), BitVec.toNat_ofNat, Nat.mod_eq_of_lt (by omega)]

/-- The greater of a small number and one, as a word and as a real. -/
theorem toInt_max_one (n : ℕ) (h : n ≤ 1024) : (((IntOp.maxsi (BitVec.ofNat 32 n) 1#32).toInt : ℤ) : ℝ) = max (n : ℝ) 1 := by
  unfold IntOp.maxsi
  rcases Nat.eq_zero_or_pos n with rfl | hn
  · norm_num
    decide
  · rw [max_eq_left (by exact_mod_cast hn)]
    split_ifs with hs
    · rw [toInt_small n h, Int.cast_natCast]
    · rw [BitVec.slt, toInt_small n h] at hs
      have e1 : (1#32 : BitVec 32).toInt = 1 := by decide
      rw [e1] at hs ⊢
      have : n = 1 := by
        simp only [decide_eq_true_eq, not_lt] at hs
        omega
      rw [this]; norm_num

/-- That number, at least one, as a real. -/
theorem countReal_at (C : Carries V s k x) (j : S_.Idx) :
    ((res_main_while0b_v9 V : FVec Ideal S_ .f32) j : EReal) = ((max (count s k : ℝ) 1 : ℝ) : EReal) := by
  unfold res_main_while0b_v9
  pointwise
  rw [count_at C, ← toInt_max_one _ (count_le s k)]
  rfl

theorem mask4_at (C : Carries V s k x) (b : Fin 1024) (p q r : Fin 1) :
    res_main_while0b_v10 V (ix4 b p q r) = if s b = k then 1#1 else 0#1 := by
  unfold res_main_while0b_v10
  pointwise
  exact mask_at C b

/-- The mask as a real. -/
theorem maskReal_at (C : Carries V s k x) (b : Fin 1024) (p q r : Fin 1) :
    ((res_main_while0b_v11 V : FVec Ideal S1024x1x1x1 .f32) (ix4 b p q r) : EReal) = ((if s b = k then 1 else 0 : ℝ) : EReal) := by
  unfold res_main_while0b_v11
  pointwise
  rw [mask4_at C]
  change (((if s b = k then 1#1 else 0#1 : BitVec 1).toNat : ℝ) : EReal) = _
  by_cases h : s b = k <;> simp [h]

/-- A masked sum of reals is the sum over the subject's recordings. -/
theorem masked_sum (C : Carries V s k x) (a : Fin 1024 → ℝ) (f : Fin 1024 → EReal) (h : ∀ b, f b = (a b : EReal)) :
    ∑ b, f b * ((res_main_while0b_v11 V : FVec Ideal S1024x1x1x1 .f32) (ix4 b 0 0 0) : EReal) = ((sumOf s k a : ℝ) : EReal) := by
  rw [sumOf, coe_sum]
  refine Finset.sum_congr rfl fun b _ => ?_
  rw [maskReal_at C, h, ← EReal.coe_mul]
  by_cases e : s b = k <;> simp [e]

theorem max_one_pos (n : ℝ) : 0 < max n 1 := zero_lt_one.trans_le (le_max_right _ _)

/-- The subject's mean. -/
theorem mean_at (C : Carries V s k x) (p : Fin 1) (c : Fin 4) (h : Fin 62) (w : Fin 128) :
    ((res_main_while0b_v17 V : FVec Ideal S1x4x62x128 .f32) (ix4 p c h w) : EReal) = ((mean s k fun b => x b c h w : ℝ) : EReal) := by
  unfold res_main_while0b_v17
  pointwise
  rw [mean, ← div_coe (max_one_pos _).ne', ← countReal_at C ix0, ← masked_sum C (fun b => x b c h w) _ fun b => C.data b c h w]

/-- A recording less its subject's mean. -/
theorem diff_at (C : Carries V s k x) (b : Fin 1024) (c : Fin 4) (h : Fin 62) (w : Fin 128) :
    ((res_main_while0b_v19 V : FVec Ideal S1024x4x62x128 .f32) (ix4 b c h w) : EReal)
      = ((x b c h w - mean s k fun b => x b c h w : ℝ) : EReal) := by
  unfold res_main_while0b_v19
  pointwise
  rw [EReal.coe_sub, ← mean_at C 0 c h w, ← C.data]

/-- A number between one and 1024 is positive as a signed word. -/
theorem sgt_zero (n : ℕ) (h0 : 0 < n) (h : n ≤ 1024) : IntOp.cmpi .sgt (BitVec.ofNat 32 n) 0#32 = 1#1 := by
  change BitVec.ofBool ((0#32 : BitVec 32).slt (BitVec.ofNat 32 n)) = 1#1
  rw [BitVec.slt, toInt_small n h, decide_eq_true (by simpa using h0)]
  rfl

/-- The recordings that change are the subject's: it has recordings, if any recording is its own. -/
theorem select_at (C : Carries V s k x) (b : Fin 1024) (p q r : Fin 1) :
    res_main_while0b_v37 V (ix4 b p q r) = if s b = k then 1#1 else 0#1 := by
  unfold res_main_while0b_v37
  pointwise
  rw [mask4_at C, count_at C]
  by_cases h : s b = k
  · rw [if_pos h, sgt_zero _ (h ▸ count_pos s b) (count_le s k)]; rfl
  · rw [if_neg h]
    exact BitVec.zero_and

/-- A choice between two reals. -/
theorem select_if (p : Prop) [Decidable p] (u v : EReal) (a b : ℝ) (hu : u = (a : EReal)) (hv : v = (b : EReal)) :
    Scalar.select (if p then 1#1 else 0#1 : BitVec 1) u v = ((if p then a else b : ℝ) : EReal) := by
  by_cases h : p
  · simp [h, Scalar.select, hu]
  · simp [h, Scalar.select, hv]

/-- The subject's standard deviation, moved off zero, as the reference spells it. -/
theorem dev_at (C : Carries V s k x) (c : Fin 4) (h : Fin 62) (w : Fin 128) (f : Fin 1024 → EReal) (n : EReal)
    (hf : ∀ b, f b = ((x b c h w - mean s k fun b => x b c h w : ℝ) : EReal)) (hn : n = ((max (count s k : ℝ) 1 : ℝ) : EReal)) :
    Ideal.sqrt (Ideal.div (∑ b, f b * f b * ((res_main_while0b_v11 V : FVec Ideal S1024x1x1x1 .f32) (ix4 b 0 0 0) : EReal)) (max (n - 1) 1))
      + Ideal.ofBits .f32 0x3727C5AC#32 = ((dev s k fun b => x b c h w : ℝ) : EReal) := by
  rw [masked_sum C (fun b => (x b c h w - mean s k fun b => x b c h w) * (x b c h w - mean s k fun b => x b c h w)) (fun b => f b * f b)
    (fun b => by rw [hf, EReal.coe_mul]), hn, ← EReal.coe_one, ← EReal.coe_sub, max_coe, div_coe (max_one_pos _).ne', ofBits_eps, dev,
    EReal.coe_add, ← sqrt_coe (var_nonneg s k _), var]

/-- The data after the first half of a trip: the subject's recordings normalised by its statistics. -/
def scaled (s : Fin 1024 → BitVec 32) (k : BitVec 32) (x : Fin 1024 → Fin 4 → Fin 62 → Fin 128 → ℝ)
    (b : Fin 1024) (c : Fin 4) (h : Fin 62) (w : Fin 128) : ℝ :=
  if s b = k then (x b c h w - mean s k fun b => x b c h w) / dev s k (fun b => x b c h w) else x b c h w

/-- A recording normalised by its subject's statistics. -/
theorem scaled_at (C : Carries V s k x) (b : Fin 1024) (c : Fin 4) (h : Fin 62) (w : Fin 128) :
    ((res_main_while0b_v38 V : FVec Ideal S1024x4x62x128 .f32) (ix4 b c h w) : EReal) = (scaled s k x b c h w : EReal) := by
  unfold res_main_while0b_v38 scaled
  pointwise
  rw [select_at C]
  refine select_if _ _ _ _ _ ?_ (C.data b c h w)
  rw [← div_coe (dev_pos s k _).ne', ← dev_at C c h w _ _ (fun b => diff_at C b c h w) (countReal_at C ix0),
    EReal.coe_sub, ← mean_at C 0 c h w, ← C.data]

/-- The mean of a line. -/
theorem lineMean_at (C : Carries V s k x) (b : Fin 1024) (c : Fin 4) (h : Fin 62) (q : Fin 1) :
    ((res_main_while0b_v42 V : FVec Ideal S1024x4x62x1 .f32) (ix4 b c h q) : EReal)
      = (((∑ v, scaled s k x b c h v) / 128 : ℝ) : EReal) := by
  unfold res_main_while0b_v42
  pointwise
  rw [ofBits_128, ← div_coe (by norm_num), coe_sum]
  simp only [scaled_at C]

/-- A line less its mean. -/
theorem centred_at (C : Carries V s k x) (b : Fin 1024) (c : Fin 4) (h : Fin 62) (w : Fin 128) :
    ((res_main_while0b_v44 V : FVec Ideal S1024x4x62x128 .f32) (ix4 b c h w) : EReal)
      = (centred (scaled s k x b c h) w : EReal) := by
  unfold res_main_while0b_v44
  pointwise
  rw [centred, EReal.coe_sub, ← lineMean_at C b c h 0, ← scaled_at C]

/-- The subject's recordings after the trip; the others are as they were. -/
theorem step_at (C : Carries V s k x) (b : Fin 1024) (c : Fin 4) (h : Fin 62) (w : Fin 128) :
    ((step_main_v0_3 V : FVec Ideal S1024x4x62x128 .f32) (ix4 b c h w) : EReal)
      = ((if s b = k then normRec s k x b c h w else x b c h w : ℝ) : EReal) := by
  unfold step_main_v0_3
  rw [id]
  clean_types
  pointwise
  rw [select_at C]
  have e : (if s b = k then normRec s k x b c h w else x b c h w)
      = if s b = k then lineNorm (scaled s k x b c h) w else scaled s k x b c h w := by
    by_cases hb : s b = k
    · rw [if_pos hb, if_pos hb, normRec]
      congr 1
      funext v
      rw [scaled, if_pos hb]
    · rw [if_neg hb, if_neg hb, scaled, if_neg hb]
  rw [e]
  refine select_if _ _ _ _ _ ?_ (scaled_at C b c h w)
  rw [ofBits_eps, ofBits_127]
  refine lineNorm_coe _ _ _ _ ?_ ?_
  · rw [centred, EReal.coe_sub, ← lineMean_at C b c h 0, ← scaled_at C]
  · rw [← div_coe (by norm_num), coe_sum]
    simp only [centred_at C, EReal.coe_mul]

end Cert.Proof.Reference

end
-- ==== Proof.ReferenceValue.lean ====
/-
  The reference's result, in real numbers: after the loop's sixteen trips each recording is normalised by its own subject's
  statistics.
-/
module

public import proofs.«01_k».proof.Proof.ReferenceStep

@[expose] public section

noncomputable section

namespace Cert.Proof.Reference

open Cert.ReferenceIdeal Cert.ReferenceIdeal.Gen Cert.ReferenceIdeal.Value
open Idealize.ShloMosaic Idealize.ShloMosaic.TcCoe Idealize.ShloMosaic.Tactic
open Idealize.ShloMosaic.StableHlo

variable {V : Valuation τ sig (Elt Ideal)} {s : Fin 1024 → BitVec 32}
  {x : Fin 1024 → Fin 4 → Fin 62 → Fin 128 → ℝ}

/-- The data before trip `n`: the recordings of the subjects below `n` are done. -/
def dataAt (s : Fin 1024 → BitVec 32) (x : Fin 1024 → Fin 4 → Fin 62 → Fin 128 → ℝ) (n : ℕ)
    (b : Fin 1024) (c : Fin 4) (h : Fin 62) (w : Fin 128) : ℝ :=
  if (s b).toNat < n then normRec s (s b) x b c h w else x b c h w

/-- A trip takes the data before it to the data before the next. -/
theorem dataAt_succ (n : ℕ) (hn : n < 16) (b : Fin 1024) (c : Fin 4) (h : Fin 62) (w : Fin 128) :
    (if s b = BitVec.ofNat 32 n then normRec s (BitVec.ofNat 32 n) (dataAt s x n) b c h w else dataAt s x n b c h w)
      = dataAt s x (n + 1) b c h w := by
  have hk : (BitVec.ofNat 32 n).toNat = n := by rw [BitVec.toNat_ofNat, Nat.mod_eq_of_lt (by omega)]
  have hx : ∀ b', s b' = BitVec.ofNat 32 n → dataAt s x n b' = x b' := fun b' e => by
    funext c h w
    rw [dataAt, e, hk, if_neg (lt_irrefl n)]
  by_cases hb : s b = BitVec.ofNat 32 n
  · rw [if_pos hb, normRec_congr s _ _ x hx b hb, dataAt, hb, hk, if_pos (Nat.lt_succ_self n)]
  · have hne : (s b).toNat ≠ n := fun e => hb (BitVec.eq_of_toNat_eq (by rw [hk, e]))
    rw [if_neg hb, dataAt, dataAt]
    have : (s b).toNat < n ↔ (s b).toNat < n + 1 := by omega
    simp only [this]

/-- What the loop carries before trip `n`. -/
theorem carries_at (C : Carries V s 0#32 x) : ∀ n, n ≤ 16 → Carries (STEP^[n] V) s (BitVec.ofNat 32 n) (dataAt s x n)
  | 0, _ => ⟨C.words, C.counter, fun b c h w => by
      rw [dataAt, if_neg (Nat.not_lt_zero _)]; exact C.data b c h w⟩
  | n + 1, hn => by
    have D := carries_at C n (by omega)
    rw [Function.iterate_succ_apply']
    refine ⟨fun b => ?_, ?_, fun b c h w => ?_⟩
    · rw [STEP_main_v0_0]; exact D.words b
    · rw [STEP_main_v0_2]
      change IntOp.addi ((STEP^[n] V (Proc.devRef .tc main_v0_2) : IVec S_ 32) ix0) 1#32 = _
      rw [D.counter]
      exact (BitVec.ofNat_add n 1).symm
    · rw [STEP_main_v0_3, ← dataAt_succ n (by omega)]
      exact step_at D b c h w

variable (m : (ℓ : Loc nD τ sig) → Buf (Elt Ideal) ℓ)

/-- The loop's entry: the words and the data are the program's arguments, and the counter is zero. -/
theorem entry_words (c : Dev nD) : entryContents preI m c (Proc.devRef .tc main_v0_0) = m (c.tc.loc main_arg1) := by
  simp only [entryContents, afterL_cons, afterL_nil]
  after_reads_simp
  rfl
theorem entry_counter (c : Dev nD) : entryContents preI m c (Proc.devRef .tc main_v0_2) = fun _ => (0#32 : BitVec 32) := by
  simp only [entryContents, afterL_cons, afterL_nil]
  after_reads_simp
  rfl
theorem entry_data (c : Dev nD) : entryContents preI m c (Proc.devRef .tc main_v0_3) = m (c.tc.loc main_arg0) := by
  simp only [entryContents, afterL_cons, afterL_nil]
  after_reads_simp
  rfl

/-- The reference's result, where the words are below sixteen and the data are reals. -/
theorem result_at (c : Dev nD) (hs : ∀ b, (s b).toNat < 16)
    (hw : ∀ b, (m (c.tc.loc main_arg1) : IVec S1024 32) (ix1 b) = s b)
    (hx : ∀ b e h w, ((m (c.tc.loc main_arg0) : FVec Ideal S1024x4x62x128 .f32) (ix4 b e h w) : EReal) = (x b e h w : EReal))
    (b : Fin 1024) (e : Fin 4) (h : Fin 62) (w : Fin 128) :
    (((STEP^[16] (entryContents preI m c)) (Proc.devRef .tc main_v0_3) : FVec Ideal S1024x4x62x128 .f32) (ix4 b e h w) : EReal)
      = (normRec s (s b) x b e h w : EReal) := by
  have C : Carries (entryContents preI m c) s 0#32 x :=
    ⟨fun b => by rw [entry_words]; exact hw b, by rw [entry_counter], fun b e h w => by rw [entry_data]; exact hx b e h w⟩
  refine ((carries_at C 16 le_rfl).data b e h w).trans ?_
  rw [dataAt, if_pos (hs b)]

end Cert.Proof.Reference

end
-- ==== Proof.Algebraic.lean ====
/-
  The value claim: from finite recordings and words below sixteen the idealised kernel and the reference leave the same array,
  the normalised recordings (`normRec`) at every index.
-/
module

public import proofs.«01_k».proof.Defs
public import proofs.«01_k».proof.Proof.DecodeFinite
public import proofs.«01_k».proof.Proof.KernelIdealRun
public import proofs.«01_k».proof.Proof.KernelIdealValue
public import proofs.«01_k».proof.Proof.ReferenceValue
public import proofs.«01_k».proof.Proof.Gen.ReferenceIdeal.Run
public import Idealize.ShloMosaic.Lib.Quiescent

@[expose] public section

noncomputable section

namespace Cert.Proof

open Idealize.ShloMosaic Idealize.ShloMosaic.TcCoe Idealize.SL.Sem

/-- The idealised kernel runs from finite recordings and words below sixteen, -/
theorem frame_kernelIdeal_finite : Cert.quiescent_KernelIdeal_pre_finite_subjects := fun m ρ h =>
  (θ_run Cert.KernelIdeal.defs _ _).mono (fun _ hr => ⟨fun c => (hr.1 c).2, hr.2⟩)
    (Cert.Proof.KernelIdeal.run_main m (small_of_finite _ _ (h 0).1) ρ)

/-- and so does the reference. -/
theorem frame_reference_finite : Cert.quiescent_ReferenceIdeal_pre_finite_subjects := fun m ρ _ =>
  (θ_run Cert.ReferenceIdeal.defs _ _).mono (fun r hr => ⟨fun c => (hr c).2, sem_eq_zero_of_no_sems (by decide) r.2⟩)
    (Cert.ReferenceIdeal.Value.run m ρ)

/-- Two arrays of four axes are equal where they are at every index. -/
theorem ext4 {n₀ n₁ n₂ n₃ : ℕ} (f g : FVec Ideal ⟨4, ![n₀, n₁, n₂, n₃]⟩ .f32)
    (h : ∀ (i : Fin n₀) (j : Fin n₁) (k : Fin n₂) (l : Fin n₃), (f (ix4 i j k l) : EReal) = g (ix4 i j k l)) : f = g := by
  funext n
  have e : n = ix4 (n 0) (n 1) (n 2) (n 3) := by funext a; fin_cases a <;> rfl
  rw [e]
  exact h _ _ _ _

/-- The idealised kernel and the reference leave the same array. -/
theorem algebraic : Cert.algebraic_KernelIdeal_ReferenceIdeal_pre_finite_subjects := fun m g m' g' hpre hagree => by
  have hT : KernelIdeal.Small (KernelIdeal.tabOf m) := small_of_finite _ _ (hpre 0).1
  refine ⟨fun c => Cert.KernelIdeal.Gen.V4 m (KernelIdeal.outs m hT) c (Proc.devRef .tc Cert.KernelIdeal.main_v6), ?_, ?_⟩
  · exact (θ_run Cert.KernelIdeal.defs _ _).mono (fun _ hr c => hr.1 c) (KernelIdeal.run_main m hT g)
  · refine (θ_run Cert.ReferenceIdeal.defs _ _).mono (fun r hr c => ⟨(hr c).1.trans ?_, (hr c).2⟩) (Cert.ReferenceIdeal.Value.run m' g')
    choose x hx using fun n => real_of_finite _ _ (hpre c).2 n
    have hs := small_of_finite _ _ (hpre c).1
    refine ext4 _ _ fun b e h w => ?_
    refine (Reference.result_at (s := fun b => (m (c.tc.loc Cert.KernelIdeal.main_arg1) : IVec Cert.KernelIdeal.S1024 32) (ix1 b))
      (x := fun b e h w => x (ix4 b e h w)) m' c (fun b => hs (ix1 b)) (fun b => congrFun (hagree c).2 (ix1 b))
      (fun b e h w => (congrFun (hagree c).1 (ix4 b e h w)).trans (hx _)) b e h w).trans ?_
    exact (KernelIdeal.result_at c m _ (fun b e h w => x (ix4 b e h w)) (fun b => rfl) (fun b e h w => hx _) hT b e h w).symm

end Cert.Proof

end
-- ==== Proof.lean ====
/-
  The proof of `Cert.Claim` (Defs.lean): the claims, each from the module that proves it.
-/
module

public import proofs.«01_k».proof.Defs
public import proofs.«01_k».proof.Proof.Frames
public import proofs.«01_k».proof.Proof.Algebraic
public import proofs.«01_k».proof.Proof.Gen.ReferenceIdeal.Run
public import proofs.«01_k».proof.Proof.Gen.Pre_subjects
public import proofs.«01_k».proof.Proof.Gen.Pre_finite_subjects

@[expose] public section

noncomputable section

namespace Cert.Proof

theorem claim : Cert.Claim :=
  ⟨Cert.Kernel.Gen.facts, Cert.KernelIdeal.Gen.facts, Cert.ReferenceIdeal.Gen.facts, Cert.Pre_subjects.Gen.facts,
    Cert.Pre_finite_subjects.Gen.facts, frame_kernel, frame_kernelIdeal, frame_kernelIdeal_finite, frame_reference,
    frame_reference_finite, preserves, algebraic⟩

end Cert.Proof

end
